-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_without_biases [hPre_without_biases : Cert.Pre_without_biases.Facts] (m : (ℓ : Loc Cert.KernelIdeal.nD Cert.KernelIdeal.τ Cert.KernelIdeal.sig) → Buf (Elt Ideal) ℓ) : Prop :=
  ∀ c : Dev Cert.KernelIdeal.nD,
    (Cert.Pre_without_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_without_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_without_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_without_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_without_biases [hPre_without_biases : Cert.Pre_without_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_without_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_without_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_without_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_without_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_without_biases [hKernelIdeal : Cert.KernelIdeal.Facts] [hPre_without_biases : Cert.Pre_without_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_without_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_without_biases [hReferenceIdeal : Cert.ReferenceIdeal.Facts] [hPre_without_biases : Cert.Pre_without_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_without_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_without_biases [hKernelIdeal : Cert.KernelIdeal.Facts] [hReferenceIdeal : Cert.ReferenceIdeal.Facts] [hPre_without_biases : Cert.Pre_without_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_without_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v350) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_without_biases : Cert.Pre_without_biases.Facts),
    quiescent_Kernel (hKernel := hKernel)
    ∧ quiescent_KernelIdeal (hKernelIdeal := hKernelIdeal)
    ∧ quiescent_KernelIdeal_pre_without_biases (hKernelIdeal := hKernelIdeal) (hPre_without_biases := hPre_without_biases)
    ∧ quiescent_ReferenceIdeal (hReferenceIdeal := hReferenceIdeal)
    ∧ quiescent_ReferenceIdeal_pre_without_biases (hReferenceIdeal := hReferenceIdeal) (hPre_without_biases := hPre_without_biases)
    ∧ preserves_Kernel_KernelIdeal
    ∧ algebraic_KernelIdeal_ReferenceIdeal_pre_without_biases (hKernelIdeal := hKernelIdeal) (hReferenceIdeal := hReferenceIdeal) (hPre_without_biases := hPre_without_biases)
-- ==== Pre_without_biases.lean ====
abbrev S10000x256 : Shape := ⟨2, ![10000, 256]⟩
abbrev S10000 : Shape := ⟨1, ![10000]⟩
abbrev S4x256x512 : Shape := ⟨3, ![4, 256, 512]⟩
abbrev S4x512 : Shape := ⟨2, ![4, 512]⟩
abbrev S4x512x1 : Shape := ⟨3, ![4, 512, 1]⟩
abbrev S4x1 : Shape := ⟨2, ![4, 1]⟩
abbrev S4x512x256 : Shape := ⟨3, ![4, 512, 256]⟩
abbrev S4x256 : Shape := ⟨2, ![4, 256]⟩
abbrev S_ : Shape := ⟨0, ![]⟩

class Facts : Prop where
  bcast_S_S4x512 : S_.BroadcastsInDim S4x512 (![] : Fin 0 → Fin S4x512.rank)
  bcast_S_S4x1 : S_.BroadcastsInDim S4x1 (![] : Fin 0 → Fin S4x1.rank)
  bcast_S_S4x256 : S_.BroadcastsInDim S4x256 (![] : Fin 0 → Fin S4x256.rank)

variable [Facts]

def fn {F : FTy → Type} [FloatOps F] (main_arg0 : FVec F S10000x256 .f32) (main_arg1 : IVec S10000 32) (main_arg2 : FVec F S4x256x512 .f32) (main_arg3 : FVec F S4x512 .f32) (main_arg4 : FVec F S4x512x1 .f32) (main_arg5 : FVec F S4x1 .f32) (main_arg6 : FVec F S4x256x512 .f32) (main_arg7 : FVec F S4x512 .f32) (main_arg8 : FVec F S4x512x256 .f32) (main_arg9 : FVec F S4x256 .f32) : IVec S4x512 1 × IVec S4x1 1 × IVec S4x512 1 × IVec S4x256 1 :=
  let main_cst : FVec F S_ .f32 := constant S_ .f32 0x00000000#32
  let main_v0 : FVec F S4x512 .f32 := broadcastInDim S4x512 ![] bcast_S_S4x512 main_cst
  let main_v1 : IVec S4x512 1 := cmpf .oeq main_arg3 main_v0
  let main_cst_0 : FVec F S_ .f32 := constant S_ .f32 0x00000000#32
  let main_v2 : FVec F S4x1 .f32 := broadcastInDim S4x1 ![] bcast_S_S4x1 main_cst_0
  let main_v3 : IVec S4x1 1 := cmpf .oeq main_arg5 main_v2
  let main_cst_1 : FVec F S_ .f32 := constant S_ .f32 0x00000000#32
  let main_v4 : FVec F S4x512 .f32 := broadcastInDim S4x512 ![] bcast_S_S4x512 main_cst_1
  let main_v5 : IVec S4x512 1 := cmpf .oeq main_arg7 main_v4
  let main_cst_2 : FVec F S_ .f32 := constant S_ .f32 0x00000000#32
  let main_v6 : FVec F S4x256 .f32 := broadcastInDim S4x256 ![] bcast_S_S4x256 main_cst_2
  let main_v7 : IVec S4x256 1 := cmpf .oeq main_arg9 main_v6
  (main_v1, main_v3, main_v5, main_v7)
-- ==== Kernel.lean ====
abbrev S10000x256 : Shape := ⟨2, ![10000, 256]⟩
abbrev S10000 : Shape := ⟨1, ![10000]⟩
abbrev S4x256x512 : Shape := ⟨3, ![4, 256, 512]⟩
abbrev S4x512 : Shape := ⟨2, ![4, 512]⟩
abbrev S4x512x1 : Shape := ⟨3, ![4, 512, 1]⟩
abbrev S4x1 : Shape := ⟨2, ![4, 1]⟩
abbrev S4x512x256 : Shape := ⟨3, ![4, 512, 256]⟩
abbrev S4x256 : Shape := ⟨2, ![4, 256]⟩
abbrev S_ : Shape := ⟨0, ![]⟩
abbrev S10240x256 : Shape := ⟨2, ![10240, 256]⟩
abbrev S10240 : Shape := ⟨1, ![10240]⟩
abbrev S10x1x1024 : Shape := ⟨3, ![10, 1, 1024]⟩
abbrev S256x4x512 : Shape := ⟨3, ![256, 4, 512]⟩
abbrev S256x2048 : Shape := ⟨2, ![256, 2048]⟩
abbrev S256x4096 : Shape := ⟨2, ![256, 4096]⟩
abbrev S1x2048 : Shape := ⟨2, ![1, 2048]⟩
abbrev S8x2048 : Shape := ⟨2, ![8, 2048]⟩
abbrev S2048x256 : Shape := ⟨2, ![2048, 256]⟩
abbrev S256x256 : Shape := ⟨2, ![256, 256]⟩
abbrev S1024x256 : Shape := ⟨2, ![1024, 256]⟩
abbrev S1x1x1024 : Shape := ⟨3, ![1, 1, 1024]⟩
abbrev S5120x2048 : Shape := ⟨2, ![5120, 2048]⟩
abbrev S4x256x5120 : Shape := ⟨3, ![4, 256, 5120]⟩
abbrev S256x4 : Shape := ⟨2, ![256, 4]⟩
abbrev S1x1024 : Shape := ⟨2, ![1, 1024]⟩
abbrev S256x1024 : Shape := ⟨2, ![256, 1024]⟩
abbrev S256x512 : Shape := ⟨2, ![256, 512]⟩
abbrev S1x512 : Shape := ⟨2, ![1, 512]⟩
abbrev S256 : Shape := ⟨1, ![256]⟩
abbrev S256x1 : Shape := ⟨2, ![256, 1]⟩
abbrev S1x256 : Shape := ⟨2, ![1, 256]⟩
abbrev S1x256x256 : Shape := ⟨3, ![1, 256, 256]⟩
abbrev S1x256x5120 : Shape := ⟨3, ![1, 256, 5120]⟩
abbrev S256x5120 : Shape := ⟨2, ![256, 5120]⟩
abbrev S5120x512 : Shape := ⟨2, ![5120, 512]⟩

abbrev nBuf : Space → Nat
  | .hbm => 30
  | .vmem => 12
  | .smem => 0
  | _ => 0

abbrev bufTy : (tb : Table) → Fin (tcTables nBuf tb) → BufTy
  | .hbm, ⟨0, _⟩ => ⟨S10000x256, .f32⟩
  | .hbm, ⟨1, _⟩ => ⟨S10000, .i32⟩
  | .hbm, ⟨2, _⟩ => ⟨S4x256x512, .f32⟩
  | .hbm, ⟨3, _⟩ => ⟨S4x512, .f32⟩
  | .hbm, ⟨4, _⟩ => ⟨S4x512x1, .f32⟩
  | .hbm, ⟨5, _⟩ => ⟨S4x1, .f32⟩
  | .hbm, ⟨6, _⟩ => ⟨S4x256x512, .f32⟩
  | .hbm, ⟨7, _⟩ => ⟨S4x512, .f32⟩
  | .hbm, ⟨8, _⟩ => ⟨S4x512x256, .f32⟩
  | .hbm, ⟨9, _⟩ => ⟨S4x256, .f32⟩
  | .hbm, ⟨10, _⟩ => ⟨S_, .i32⟩
  | .hbm, ⟨11, _⟩ => ⟨S_, .f32⟩
  | .hbm, ⟨12, _⟩ => ⟨S10240x256, .f32⟩
  | .hbm, ⟨13, _⟩ => ⟨S10240x256, .bf16⟩
  | .hbm, ⟨14, _⟩ => ⟨S_, .i32⟩
  | .hbm, ⟨15, _⟩ => ⟨S_, .i32⟩
  | .hbm, ⟨16, _⟩ => ⟨S10240, .i32⟩
  | .hbm, ⟨17, _⟩ => ⟨S10x1x1024, .i32⟩
  | .hbm, ⟨18, _⟩ => ⟨S256x4x512, .f32⟩
  | .hbm, ⟨19, _⟩ => ⟨S256x2048, .f32⟩
  | .hbm, ⟨20, _⟩ => ⟨S256x4x512, .f32⟩
  | .hbm, ⟨21, _⟩ => ⟨S256x2048, .f32⟩
  | .hbm, ⟨22, _⟩ => ⟨S256x4096, .f32⟩
  | .hbm, ⟨23, _⟩ => ⟨S256x4096, .bf16⟩
  | .hbm, ⟨24, _⟩ => ⟨S4x512, .f32⟩
  | .hbm, ⟨25, _⟩ => ⟨S1x2048, .f32⟩
  | .hbm, ⟨26, _⟩ => ⟨S8x2048, .f32⟩
  | .hbm, ⟨27, _⟩ => ⟨S2048x256, .f32⟩
  | .hbm, ⟨28, _⟩ => ⟨S2048x256, .bf16⟩
  | .hbm, ⟨29, _⟩ => ⟨S256x256, .f32⟩
  | .local _ .vmem, ⟨0, _⟩ => ⟨S1024x256, .bf16⟩
  | .local _ .vmem, ⟨1, _⟩ => ⟨S1024x256, .bf16⟩
  | .local _ .vmem, ⟨2, _⟩ => ⟨S1x1x1024, .i32⟩
  | .local _ .vmem, ⟨3, _⟩ => ⟨S1x1x1024, .i32⟩
  | .local _ .vmem, ⟨4, _⟩ => ⟨S256x4096, .bf16⟩
  | .local _ .vmem, ⟨5, _⟩ => ⟨S8x2048, .f32⟩
  | .local _ .vmem, ⟨6, _⟩ => ⟨S2048x256, .bf16⟩
  | .local _ .vmem, ⟨7, _⟩ => ⟨S256x256, .f32⟩
  | .local _ .vmem, ⟨8, _⟩ => ⟨S5120x2048, .bf16⟩
  | .local _ .vmem, ⟨9, _⟩ => ⟨S4x256x5120, .bf16⟩
  | .local _ .vmem, ⟨10, _⟩ => ⟨S256x4, .f32⟩
  | .local _ .vmem, ⟨11, _⟩ => ⟨S256x2048, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![10], ![false]⟩

def k0_off1 (i : grid0.Coords) (c0_i32_21 : BitVec 32) : Fin 3 → Nat :=
  let c0_22 : Index := 0#32
  let c0_23 : Index := 0#32
  let arg0 : BitVec 32 := BitVec.ofNat 32 (i 0).val
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let v66 : BitVec 32 := Scalar.addi v10 c0_i32_21
  let v67 : Index := Scalar.indexCast v66
  ![0, 0, v67.toNat]
def k0_off2 (i : grid0.Coords) (c0_i32_24 : BitVec 32) : Fin 3 → Nat :=
  let c1 : Index := 1#32
  let c0_25 : Index := 0#32
  let arg0 : BitVec 32 := BitVec.ofNat 32 (i 0).val
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let v74 : BitVec 32 := Scalar.addi v10 c0_i32_24
  let v75 : Index := Scalar.indexCast v74
  ![1, 0, v75.toNat]
def k0_off3 (i : grid0.Coords) (c0_i32_26 : BitVec 32) : Fin 3 → Nat :=
  let c2 : Index := 2#32
  let c0_27 : Index := 0#32
  let arg0 : BitVec 32 := BitVec.ofNat 32 (i 0).val
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let v82 : BitVec 32 := Scalar.addi v10 c0_i32_26
  let v83 : Index := Scalar.indexCast v82
  ![2, 0, v83.toNat]
def k0_off4 (i : grid0.Coords) (c0_i32_28 : BitVec 32) : Fin 3 → Nat :=
  let c3 : Index := 3#32
  let c0_29 : Index := 0#32
  let arg0 : BitVec 32 := BitVec.ofNat 32 (i 0).val
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let v90 : BitVec 32 := Scalar.addi v10 c0_i32_28
  let v91 : Index := Scalar.indexCast v90
  ![3, 0, v91.toNat]
def k0_off5 (i : grid0.Coords) (c0_i32_30 : BitVec 32) : Fin 2 → Nat :=
  let arg0 : BitVec 32 := BitVec.ofNat 32 (i 0).val
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let v97 : BitVec 32 := Scalar.addi v10 c0_i32_30
  let v98 : Index := Scalar.indexCast v97
  let c0_31 : Index := 0#32
  ![v98.toNat, 0]
def k0_cond3 (i : grid0.Coords) : BitVec 1 :=
  let arg0 : BitVec 32 := BitVec.ofNat 32 (i 0).val
  let c9_i32 : BitVec 32 := 9#32
  let v369 : BitVec 1 := Scalar.cmpi .eq arg0 c9_i32
  let v370 : BitVec 32 := Scalar.extui v369
  let c0_i32_144 : BitVec 32 := 0#32
  let v371 : BitVec 1 := Scalar.cmpi .ne v370 c0_i32_144
  v371

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S10000x256 : Shape := ⟨2, ![10000, 256]⟩
abbrev S10000 : Shape := ⟨1, ![10000]⟩
abbrev S4x256x512 : Shape := ⟨3, ![4, 256, 512]⟩
abbrev S4x512 : Shape := ⟨2, ![4, 512]⟩
abbrev S4x512x1 : Shape := ⟨3, ![4, 512, 1]⟩
abbrev S4x1 : Shape := ⟨2, ![4, 1]⟩
abbrev S4x512x256 : Shape := ⟨3, ![4, 512, 256]⟩
abbrev S4x256 : Shape := ⟨2, ![4, 256]⟩
abbrev S_ : Shape := ⟨0, ![]⟩
abbrev S256x256 : Shape := ⟨2, ![256, 256]⟩
abbrev S1x256x512 : Shape := ⟨3, ![1, 256, 512]⟩
abbrev S256x512 : Shape := ⟨2, ![256, 512]⟩
abbrev S10000x512 : Shape := ⟨2, ![10000, 512]⟩
abbrev S1x512 : Shape := ⟨2, ![1, 512]⟩
abbrev S512 : Shape := ⟨1, ![512]⟩
abbrev S1x512x1 : Shape := ⟨3, ![1, 512, 1]⟩
abbrev S512x1 : Shape := ⟨2, ![512, 1]⟩
abbrev S10000x1 : Shape := ⟨2, ![10000, 1]⟩
abbrev S1x1 : Shape := ⟨2, ![1, 1]⟩
abbrev S1 : Shape := ⟨1, ![1]⟩
abbrev S1x512x256 : Shape := ⟨3, ![1, 512, 256]⟩
abbrev S512x256 : Shape := ⟨2, ![512, 256]⟩
abbrev S1x256 : Shape := ⟨2, ![1, 256]⟩
abbrev S256 : Shape := ⟨1, ![256]⟩
abbrev S256x1 : Shape := ⟨2, ![256, 1]⟩

abbrev nBuf : Space → Nat
  | .hbm => 443
  | .vmem => 0
  | .smem => 0
  | _ => 0

abbrev hbmTy0_0 (i : Nat) : BufTy := match i % 128 with
  | 0 => ⟨S10000x256, .f32⟩
  | 1 => ⟨S10000, .i32⟩
  | 2 => ⟨S4x256x512, .f32⟩
  | 3 => ⟨S4x512, .f32⟩
  | 4 => ⟨S4x512x1, .f32⟩
  | 5 => ⟨S4x1, .f32⟩
  | 6 => ⟨S4x256x512, .f32⟩
  | 7 => ⟨S4x512, .f32⟩
  | 8 => ⟨S4x512x256, .f32⟩
  | 9 => ⟨S4x256, .f32⟩
  | 10 => ⟨S_, .f32⟩
  | 11 => ⟨S256x256, .f32⟩
  | 12 => ⟨S1x256x512, .f32⟩
  | 13 => ⟨S256x512, .f32⟩
  | 14 => ⟨S10000x512, .f32⟩
  | 15 => ⟨S1x512, .f32⟩
  | 16 => ⟨S512, .f32⟩
  | 17 => ⟨S1x512, .f32⟩
  | 18 => ⟨S10000x512, .f32⟩
  | 19 => ⟨S10000x512, .f32⟩
  | 20 => ⟨S_, .f32⟩
  | 21 => ⟨S10000x512, .f32⟩
  | 22 => ⟨S10000x512, .f32⟩
  | 23 => ⟨S1x512x1, .f32⟩
  | 24 => ⟨S512x1, .f32⟩
  | 25 => ⟨S10000x1, .f32⟩
  | 26 => ⟨S1x1, .f32⟩
  | 27 => ⟨S1, .f32⟩
  | 28 => ⟨S1x1, .f32⟩
  | 29 => ⟨S10000x1, .f32⟩
  | 30 => ⟨S10000x1, .f32⟩
  | 31 => ⟨S1x256x512, .f32⟩
  | 32 => ⟨S256x512, .f32⟩
  | 33 => ⟨S10000x512, .f32⟩
  | 34 => ⟨S1x512, .f32⟩
  | 35 => ⟨S512, .f32⟩
  | 36 => ⟨S1x512, .f32⟩
  | 37 => ⟨S10000x512, .f32⟩
  | 38 => ⟨S10000x512, .f32⟩
  | 39 => ⟨S_, .f32⟩
  | 40 => ⟨S10000x512, .f32⟩
  | 41 => ⟨S10000x512, .f32⟩
  | 42 => ⟨S1x512x256, .f32⟩
  | 43 => ⟨S512x256, .f32⟩
  | 44 => ⟨S10000x256, .f32⟩
  | 45 => ⟨S1x256, .f32⟩
  | 46 => ⟨S256, .f32⟩
  | 47 => ⟨S1x256, .f32⟩
  | 48 => ⟨S10000x256, .f32⟩
  | 49 => ⟨S10000x256, .f32⟩
  | 50 => ⟨S10000x1, .i32⟩
  | 51 => ⟨S256, .i32⟩
  | 52 => ⟨S1x256, .i32⟩
  | 53 => ⟨S10000x256, .i32⟩
  | 54 => ⟨S10000x256, .i32⟩
  | 55 => ⟨S10000x256, .i1⟩
  | 56 => ⟨S_, .f32⟩
  | 57 => ⟨S_, .f32⟩
  | 58 => ⟨S10000x256, .f32⟩
  | 59 => ⟨S10000x256, .f32⟩
  | 60 => ⟨S10000x256, .f32⟩
  | 61 => ⟨S_, .f32⟩
  | 62 => ⟨S256, .f32⟩
  | 63 => ⟨S256x1, .f32⟩
  | 64 => ⟨S256x1, .f32⟩
  | 65 => ⟨S_, .f32⟩
  | 66 => ⟨S256x1, .f32⟩
  | 67 => ⟨S256x1, .i1⟩
  | 68 => ⟨S_, .f32⟩
  | 69 => ⟨S_, .f32⟩
  | 70 => ⟨S256x1, .f32⟩
  | 71 => ⟨S256x1, .f32⟩
  | 72 => ⟨S_, .i32⟩
  | 73 => ⟨S10000, .i32⟩
  | 74 => ⟨S10000, .i1⟩
  | 75 => ⟨S_, .i32⟩
  | 76 => ⟨S10000, .i32⟩
  | 77 => ⟨S10000, .i32⟩
  | 78 => ⟨S10000, .i32⟩
  | 79 => ⟨S10000x1, .i32⟩
  | 80 => ⟨S10000x1, .f32⟩
  | 81 => ⟨S10000x1, .f32⟩
  | 82 => ⟨S10000x1, .f32⟩
  | 83 => ⟨S_, .f32⟩
  | 84 => ⟨S256x1, .f32⟩
  | 85 => ⟨S10000x1, .i32⟩
  | 86 => ⟨S256x1, .f32⟩
  | 87 => ⟨S_, .i32⟩
  | 88 => ⟨S10000, .i32⟩
  | 89 => ⟨S10000, .i1⟩
  | 90 => ⟨S_, .i32⟩
  | 91 => ⟨S10000, .i32⟩
  | 92 => ⟨S10000, .i32⟩
  | 93 => ⟨S10000, .i32⟩
  | 94 => ⟨S10000x1, .i32⟩
  | 95 => ⟨S10000x1, .f32⟩
  | 96 => ⟨S256x1, .f32⟩
  | 97 => ⟨S256x1, .f32⟩
  | 98 => ⟨S_, .i32⟩
  | 99 => ⟨S10000, .i32⟩
  | 100 => ⟨S10000, .i1⟩
  | 101 => ⟨S_, .i32⟩
  | 102 => ⟨S10000, .i32⟩
  | 103 => ⟨S10000, .i32⟩
  | 104 => ⟨S10000, .i32⟩
  | 105 => ⟨S10000x1, .i32⟩
  | 106 => ⟨S10000x1, .f32⟩
  | 107 => ⟨S_, .f32⟩
  | 108 => ⟨S10000x1, .f32⟩
  | 109 => ⟨S10000x1, .f32⟩
  | 110 => ⟨S10000x1, .f32⟩
  | 111 => ⟨S10000x1, .f32⟩
  | 112 => ⟨S10000x256, .f32⟩
  | 113 => ⟨S10000x256, .f32⟩
  | 114 => ⟨S_, .f32⟩
  | 115 => ⟨S256x256, .f32⟩
  | 116 => ⟨S10000x1, .i32⟩
  | 117 => ⟨S256x256, .f32⟩
  | 118 => ⟨S256x256, .f32⟩
  | 119 => ⟨S1x256x512, .f32⟩
  | 120 => ⟨S256x512, .f32⟩
  | 121 => ⟨S10000x512, .f32⟩
  | 122 => ⟨S1x512, .f32⟩
  | 123 => ⟨S512, .f32⟩
  | 124 => ⟨S1x512, .f32⟩
  | 125 => ⟨S10000x512, .f32⟩
  | 126 => ⟨S10000x512, .f32⟩
  | 127 => ⟨S_, .f32⟩
  | _ => ⟨S10000x256, .f32⟩

abbrev hbmTy0_1 (i : Nat) : BufTy := match i % 128 with
  | 0 => ⟨S10000x512, .f32⟩
  | 1 => ⟨S10000x512, .f32⟩
  | 2 => ⟨S1x512x1, .f32⟩
  | 3 => ⟨S512x1, .f32⟩
  | 4 => ⟨S10000x1, .f32⟩
  | 5 => ⟨S1x1, .f32⟩
  | 6 => ⟨S1, .f32⟩
  | 7 => ⟨S1x1, .f32⟩
  | 8 => ⟨S10000x1, .f32⟩
  | 9 => ⟨S10000x1, .f32⟩
  | 10 => ⟨S1x256x512, .f32⟩
  | 11 => ⟨S256x512, .f32⟩
  | 12 => ⟨S10000x512, .f32⟩
  | 13 => ⟨S1x512, .f32⟩
  | 14 => ⟨S512, .f32⟩
  | 15 => ⟨S1x512, .f32⟩
  | 16 => ⟨S10000x512, .f32⟩
  | 17 => ⟨S10000x512, .f32⟩
  | 18 => ⟨S_, .f32⟩
  | 19 => ⟨S10000x512, .f32⟩
  | 20 => ⟨S10000x512, .f32⟩
  | 21 => ⟨S1x512x256, .f32⟩
  | 22 => ⟨S512x256, .f32⟩
  | 23 => ⟨S10000x256, .f32⟩
  | 24 => ⟨S1x256, .f32⟩
  | 25 => ⟨S256, .f32⟩
  | 26 => ⟨S1x256, .f32⟩
  | 27 => ⟨S10000x256, .f32⟩
  | 28 => ⟨S10000x256, .f32⟩
  | 29 => ⟨S10000x1, .i32⟩
  | 30 => ⟨S256, .i32⟩
  | 31 => ⟨S1x256, .i32⟩
  | 32 => ⟨S10000x256, .i32⟩
  | 33 => ⟨S10000x256, .i32⟩
  | 34 => ⟨S10000x256, .i1⟩
  | 35 => ⟨S_, .f32⟩
  | 36 => ⟨S_, .f32⟩
  | 37 => ⟨S10000x256, .f32⟩
  | 38 => ⟨S10000x256, .f32⟩
  | 39 => ⟨S10000x256, .f32⟩
  | 40 => ⟨S_, .f32⟩
  | 41 => ⟨S256, .f32⟩
  | 42 => ⟨S256x1, .f32⟩
  | 43 => ⟨S256x1, .f32⟩
  | 44 => ⟨S_, .f32⟩
  | 45 => ⟨S256x1, .f32⟩
  | 46 => ⟨S256x1, .i1⟩
  | 47 => ⟨S_, .f32⟩
  | 48 => ⟨S_, .f32⟩
  | 49 => ⟨S256x1, .f32⟩
  | 50 => ⟨S256x1, .f32⟩
  | 51 => ⟨S_, .i32⟩
  | 52 => ⟨S10000, .i32⟩
  | 53 => ⟨S10000, .i1⟩
  | 54 => ⟨S_, .i32⟩
  | 55 => ⟨S10000, .i32⟩
  | 56 => ⟨S10000, .i32⟩
  | 57 => ⟨S10000, .i32⟩
  | 58 => ⟨S10000x1, .i32⟩
  | 59 => ⟨S10000x1, .f32⟩
  | 60 => ⟨S10000x1, .f32⟩
  | 61 => ⟨S10000x1, .f32⟩
  | 62 => ⟨S_, .f32⟩
  | 63 => ⟨S256x1, .f32⟩
  | 64 => ⟨S10000x1, .i32⟩
  | 65 => ⟨S256x1, .f32⟩
  | 66 => ⟨S_, .i32⟩
  | 67 => ⟨S10000, .i32⟩
  | 68 => ⟨S10000, .i1⟩
  | 69 => ⟨S_, .i32⟩
  | 70 => ⟨S10000, .i32⟩
  | 71 => ⟨S10000, .i32⟩
  | 72 => ⟨S10000, .i32⟩
  | 73 => ⟨S10000x1, .i32⟩
  | 74 => ⟨S10000x1, .f32⟩
  | 75 => ⟨S256x1, .f32⟩
  | 76 => ⟨S256x1, .f32⟩
  | 77 => ⟨S_, .i32⟩
  | 78 => ⟨S10000, .i32⟩
  | 79 => ⟨S10000, .i1⟩
  | 80 => ⟨S_, .i32⟩
  | 81 => ⟨S10000, .i32⟩
  | 82 => ⟨S10000, .i32⟩
  | 83 => ⟨S10000, .i32⟩
  | 84 => ⟨S10000x1, .i32⟩
  | 85 => ⟨S10000x1, .f32⟩
  | 86 => ⟨S_, .f32⟩
  | 87 => ⟨S10000x1, .f32⟩
  | 88 => ⟨S10000x1, .f32⟩
  | 89 => ⟨S10000x1, .f32⟩
  | 90 => ⟨S10000x1, .f32⟩
  | 91 => ⟨S10000x256, .f32⟩
  | 92 => ⟨S10000x256, .f32⟩
  | 93 => ⟨S_, .f32⟩
  | 94 => ⟨S256x256, .f32⟩
  | 95 => ⟨S10000x1, .i32⟩
  | 96 => ⟨S256x256, .f32⟩
  | 97 => ⟨S256x256, .f32⟩
  | 98 => ⟨S1x256x512, .f32⟩
  | 99 => ⟨S256x512, .f32⟩
  | 100 => ⟨S10000x512, .f32⟩
  | 101 => ⟨S1x512, .f32⟩
  | 102 => ⟨S512, .f32⟩
  | 103 => ⟨S1x512, .f32⟩
  | 104 => ⟨S10000x512, .f32⟩
  | 105 => ⟨S10000x512, .f32⟩
  | 106 => ⟨S_, .f32⟩
  | 107 => ⟨S10000x512, .f32⟩
  | 108 => ⟨S10000x512, .f32⟩
  | 109 => ⟨S1x512x1, .f32⟩
  | 110 => ⟨S512x1, .f32⟩
  | 111 => ⟨S10000x1, .f32⟩
  | 112 => ⟨S1x1, .f32⟩
  | 113 => ⟨S1, .f32⟩
  | 114 => ⟨S1x1, .f32⟩
  | 115 => ⟨S10000x1, .f32⟩
  | 116 => ⟨S10000x1, .f32⟩
  | 117 => ⟨S1x256x512, .f32⟩
  | 118 => ⟨S256x512, .f32⟩
  | 119 => ⟨S10000x512, .f32⟩
  | 120 => ⟨S1x512, .f32⟩
  | 121 => ⟨S512, .f32⟩
  | 122 => ⟨S1x512, .f32⟩
  | 123 => ⟨S10000x512, .f32⟩
  | 124 => ⟨S10000x512, .f32⟩
  | 125 => ⟨S_, .f32⟩
  | 126 => ⟨S10000x512, .f32⟩
  | 127 => ⟨S10000x512, .f32⟩
  | _ => ⟨S10000x256, .f32⟩

abbrev hbmTy0_2 (i : Nat) : BufTy := match i % 128 with
  | 0 => ⟨S1x512x256, .f32⟩
  | 1 => ⟨S512x256, .f32⟩
  | 2 => ⟨S10000x256, .f32⟩
  | 3 => ⟨S1x256, .f32⟩
  | 4 => ⟨S256, .f32⟩
  | 5 => ⟨S1x256, .f32⟩
  | 6 => ⟨S10000x256, .f32⟩
  | 7 => ⟨S10000x256, .f32⟩
  | 8 => ⟨S10000x1, .i32⟩
  | 9 => ⟨S256, .i32⟩
  | 10 => ⟨S1x256, .i32⟩
  | 11 => ⟨S10000x256, .i32⟩
  | 12 => ⟨S10000x256, .i32⟩
  | 13 => ⟨S10000x256, .i1⟩
  | 14 => ⟨S_, .f32⟩
  | 15 => ⟨S_, .f32⟩
  | 16 => ⟨S10000x256, .f32⟩
  | 17 => ⟨S10000x256, .f32⟩
  | 18 => ⟨S10000x256, .f32⟩
  | 19 => ⟨S_, .f32⟩
  | 20 => ⟨S256, .f32⟩
  | 21 => ⟨S256x1, .f32⟩
  | 22 => ⟨S256x1, .f32⟩
  | 23 => ⟨S_, .f32⟩
  | 24 => ⟨S256x1, .f32⟩
  | 25 => ⟨S256x1, .i1⟩
  | 26 => ⟨S_, .f32⟩
  | 27 => ⟨S_, .f32⟩
  | 28 => ⟨S256x1, .f32⟩
  | 29 => ⟨S256x1, .f32⟩
  | 30 => ⟨S_, .i32⟩
  | 31 => ⟨S10000, .i32⟩
  | 32 => ⟨S10000, .i1⟩
  | 33 => ⟨S_, .i32⟩
  | 34 => ⟨S10000, .i32⟩
  | 35 => ⟨S10000, .i32⟩
  | 36 => ⟨S10000, .i32⟩
  | 37 => ⟨S10000x1, .i32⟩
  | 38 => ⟨S10000x1, .f32⟩
  | 39 => ⟨S10000x1, .f32⟩
  | 40 => ⟨S10000x1, .f32⟩
  | 41 => ⟨S_, .f32⟩
  | 42 => ⟨S256x1, .f32⟩
  | 43 => ⟨S10000x1, .i32⟩
  | 44 => ⟨S256x1, .f32⟩
  | 45 => ⟨S_, .i32⟩
  | 46 => ⟨S10000, .i32⟩
  | 47 => ⟨S10000, .i1⟩
  | 48 => ⟨S_, .i32⟩
  | 49 => ⟨S10000, .i32⟩
  | 50 => ⟨S10000, .i32⟩
  | 51 => ⟨S10000, .i32⟩
  | 52 => ⟨S10000x1, .i32⟩
  | 53 => ⟨S10000x1, .f32⟩
  | 54 => ⟨S256x1, .f32⟩
  | 55 => ⟨S256x1, .f32⟩
  | 56 => ⟨S_, .i32⟩
  | 57 => ⟨S10000, .i32⟩
  | 58 => ⟨S10000, .i1⟩
  | 59 => ⟨S_, .i32⟩
  | 60 => ⟨S10000, .i32⟩
  | 61 => ⟨S10000, .i32⟩
  | 62 => ⟨S10000, .i32⟩
  | 63 => ⟨S10000x1, .i32⟩
  | 64 => ⟨S10000x1, .f32⟩
  | 65 => ⟨S_, .f32⟩
  | 66 => ⟨S10000x1, .f32⟩
  | 67 => ⟨S10000x1, .f32⟩
  | 68 => ⟨S10000x1, .f32⟩
  | 69 => ⟨S10000x1, .f32⟩
  | 70 => ⟨S10000x256, .f32⟩
  | 71 => ⟨S10000x256, .f32⟩
  | 72 => ⟨S_, .f32⟩
  | 73 => ⟨S256x256, .f32⟩
  | 74 => ⟨S10000x1, .i32⟩
  | 75 => ⟨S256x256, .f32⟩
  | 76 => ⟨S256x256, .f32⟩
  | 77 => ⟨S1x256x512, .f32⟩
  | 78 => ⟨S256x512, .f32⟩
  | 79 => ⟨S10000x512, .f32⟩
  | 80 => ⟨S1x512, .f32⟩
  | 81 => ⟨S512, .f32⟩
  | 82 => ⟨S1x512, .f32⟩
  | 83 => ⟨S10000x512, .f32⟩
  | 84 => ⟨S10000x512, .f32⟩
  | 85 => ⟨S_, .f32⟩
  | 86 => ⟨S10000x512, .f32⟩
  | 87 => ⟨S10000x512, .f32⟩
  | 88 => ⟨S1x512x1, .f32⟩
  | 89 => ⟨S512x1, .f32⟩
  | 90 => ⟨S10000x1, .f32⟩
  | 91 => ⟨S1x1, .f32⟩
  | 92 => ⟨S1, .f32⟩
  | 93 => ⟨S1x1, .f32⟩
  | 94 => ⟨S10000x1, .f32⟩
  | 95 => ⟨S10000x1, .f32⟩
  | 96 => ⟨S1x256x512, .f32⟩
  | 97 => ⟨S256x512, .f32⟩
  | 98 => ⟨S10000x512, .f32⟩
  | 99 => ⟨S1x512, .f32⟩
  | 100 => ⟨S512, .f32⟩
  | 101 => ⟨S1x512, .f32⟩
  | 102 => ⟨S10000x512, .f32⟩
  | 103 => ⟨S10000x512, .f32⟩
  | 104 => ⟨S_, .f32⟩
  | 105 => ⟨S10000x512, .f32⟩
  | 106 => ⟨S10000x512, .f32⟩
  | 107 => ⟨S1x512x256, .f32⟩
  | 108 => ⟨S512x256, .f32⟩
  | 109 => ⟨S10000x256, .f32⟩
  | 110 => ⟨S1x256, .f32⟩
  | 111 => ⟨S256, .f32⟩
  | 112 => ⟨S1x256, .f32⟩
  | 113 => ⟨S10000x256, .f32⟩
  | 114 => ⟨S10000x256, .f32⟩
  | 115 => ⟨S10000x1, .i32⟩
  | 116 => ⟨S256, .i32⟩
  | 117 => ⟨S1x256, .i32⟩
  | 118 => ⟨S10000x256, .i32⟩
  | 119 => ⟨S10000x256, .i32⟩
  | 120 => ⟨S10000x256, .i1⟩
  | 121 => ⟨S_, .f32⟩
  | 122 => ⟨S_, .f32⟩
  | 123 => ⟨S10000x256, .f32⟩
  | 124 => ⟨S10000x256, .f32⟩
  | 125 => ⟨S10000x256, .f32⟩
  | 126 => ⟨S_, .f32⟩
  | 127 => ⟨S256, .f32⟩
  | _ => ⟨S10000x256, .f32⟩

abbrev hbmTy0_3 (i : Nat) : BufTy := match i % 128 with
  | 0 => ⟨S256x1, .f32⟩
  | 1 => ⟨S256x1, .f32⟩
  | 2 => ⟨S_, .f32⟩
  | 3 => ⟨S256x1, .f32⟩
  | 4 => ⟨S256x1, .i1⟩
  | 5 => ⟨S_, .f32⟩
  | 6 => ⟨S_, .f32⟩
  | 7 => ⟨S256x1, .f32⟩
  | 8 => ⟨S256x1, .f32⟩
  | 9 => ⟨S_, .i32⟩
  | 10 => ⟨S10000, .i32⟩
  | 11 => ⟨S10000, .i1⟩
  | 12 => ⟨S_, .i32⟩
  | 13 => ⟨S10000, .i32⟩
  | 14 => ⟨S10000, .i32⟩
  | 15 => ⟨S10000, .i32⟩
  | 16 => ⟨S10000x1, .i32⟩
  | 17 => ⟨S10000x1, .f32⟩
  | 18 => ⟨S10000x1, .f32⟩
  | 19 => ⟨S10000x1, .f32⟩
  | 20 => ⟨S_, .f32⟩
  | 21 => ⟨S256x1, .f32⟩
  | 22 => ⟨S10000x1, .i32⟩
  | 23 => ⟨S256x1, .f32⟩
  | 24 => ⟨S_, .i32⟩
  | 25 => ⟨S10000, .i32⟩
  | 26 => ⟨S10000, .i1⟩
  | 27 => ⟨S_, .i32⟩
  | 28 => ⟨S10000, .i32⟩
  | 29 => ⟨S10000, .i32⟩
  | 30 => ⟨S10000, .i32⟩
  | 31 => ⟨S10000x1, .i32⟩
  | 32 => ⟨S10000x1, .f32⟩
  | 33 => ⟨S256x1, .f32⟩
  | 34 => ⟨S256x1, .f32⟩
  | 35 => ⟨S_, .i32⟩
  | 36 => ⟨S10000, .i32⟩
  | 37 => ⟨S10000, .i1⟩
  | 38 => ⟨S_, .i32⟩
  | 39 => ⟨S10000, .i32⟩
  | 40 => ⟨S10000, .i32⟩
  | 41 => ⟨S10000, .i32⟩
  | 42 => ⟨S10000x1, .i32⟩
  | 43 => ⟨S10000x1, .f32⟩
  | 44 => ⟨S_, .f32⟩
  | 45 => ⟨S10000x1, .f32⟩
  | 46 => ⟨S10000x1, .f32⟩
  | 47 => ⟨S10000x1, .f32⟩
  | 48 => ⟨S10000x1, .f32⟩
  | 49 => ⟨S10000x256, .f32⟩
  | 50 => ⟨S10000x256, .f32⟩
  | 51 => ⟨S_, .f32⟩
  | 52 => ⟨S256x256, .f32⟩
  | 53 => ⟨S10000x1, .i32⟩
  | 54 => ⟨S256x256, .f32⟩
  | 55 => ⟨S256x256, .f32⟩
  | 56 => ⟨S_, .f32⟩
  | 57 => ⟨S256x256, .f32⟩
  | 58 => ⟨S256x256, .f32⟩
  | _ => ⟨S10000x256, .f32⟩

abbrev hbmTy (i : Nat) : BufTy := match i / 128 with
  | 0 => hbmTy0_0 i
  | 1 => hbmTy0_1 i
  | 2 => hbmTy0_2 i
  | 3 => hbmTy0_3 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v43 : Ref sig .tc := ⟨.hbm, 60, rfl⟩
abbrev main_cst_3 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_4 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_call1_v0 : Ref sig .tc := ⟨.hbm, 69, rfl⟩
abbrev main_call1_v1 : Ref sig .tc := ⟨.hbm, 70, rfl⟩
abbrev main_v49 : Ref sig .tc := ⟨.hbm, 71, rfl⟩
abbrev main_c : Ref sig .tc := ⟨.hbm, 72, rfl⟩
abbrev main_v50 : Ref sig .tc := ⟨.hbm, 73, rfl⟩
abbrev main_v51 : Ref sig .tc := ⟨.hbm, 74, rfl⟩
abbrev main_c_6 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_8 : Ref sig .tc := ⟨.hbm, 87, rfl⟩
abbrev main_v62 : Ref sig .tc := ⟨.hbm, 88, rfl⟩
abbrev main_v63 : Ref sig .tc := ⟨.hbm, 89, rfl⟩
abbrev main_c_9 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_10 : Ref sig .tc := ⟨.hbm, 98, rfl⟩
abbrev main_v71 : Ref sig .tc := ⟨.hbm, 99, rfl⟩
abbrev main_v72 : Ref sig .tc := ⟨.hbm, 100, rfl⟩
abbrev main_c_11 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_12 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_13 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_14 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_15 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_16 : Ref sig .tc := ⟨.hbm, 163, rfl⟩
abbrev main_call2_v0 : Ref sig .tc := ⟨.hbm, 164, rfl⟩
abbrev main_call2_v1 : Ref sig .tc := ⟨.hbm, 165, rfl⟩
abbrev main_call2_v2 : Ref sig .tc := ⟨.hbm, 166, rfl⟩
abbrev main_v130 : Ref sig .tc := ⟨.hbm, 167, rfl⟩
abbrev main_cst_17 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_cst_18 : Ref sig .tc := ⟨.hbm, 172, rfl⟩
abbrev main_v134 : Ref sig .tc := ⟨.hbm, 173, rfl⟩
abbrev main_v135 : Ref sig .tc := ⟨.hbm, 174, rfl⟩
abbrev main_cst_19 : Ref sig .tc := ⟨.hbm, 175, rfl⟩
abbrev main_call3_v0 : Ref sig .tc := ⟨.hbm, 176, rfl⟩
abbrev main_call3_v1 : Ref sig .tc := ⟨.hbm, 177, rfl⟩
abbrev main_v136 : Ref sig .tc := ⟨.hbm, 178, rfl⟩
abbrev main_c_20 : Ref sig .tc := ⟨.hbm, 179, rfl⟩
abbrev main_v137 : Ref sig .tc := ⟨.hbm, 180, rfl⟩
abbrev main_v138 : Ref sig .tc := ⟨.hbm, 181, rfl⟩
abbrev main_c_21 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_cst_22 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_c_23 : Ref sig .tc := ⟨.hbm, 194, rfl⟩
abbrev main_v149 : Ref sig .tc := ⟨.hbm, 195, rfl⟩
abbrev main_v150 : Ref sig .tc := ⟨.hbm, 196, rfl⟩
abbrev main_c_24 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_c_25 : Ref sig .tc := ⟨.hbm, 205, rfl⟩
abbrev main_v158 : Ref sig .tc := ⟨.hbm, 206, rfl⟩
abbrev main_v159 : Ref sig .tc := ⟨.hbm, 207, rfl⟩
abbrev main_c_26 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_cst_27 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_cst_28 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_cst_29 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_cst_30 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_cst_31 : Ref sig .tc := ⟨.hbm, 270, rfl⟩
abbrev main_call4_v0 : Ref sig .tc := ⟨.hbm, 271, rfl⟩
abbrev main_call4_v1 : Ref sig .tc := ⟨.hbm, 272, rfl⟩
abbrev main_call4_v2 : Ref sig .tc := ⟨.hbm, 273, rfl⟩
abbrev main_v217 : Ref sig .tc := ⟨.hbm, 274, rfl⟩
abbrev main_cst_32 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_cst_33 : Ref sig .tc := ⟨.hbm, 279, rfl⟩
abbrev main_v221 : Ref sig .tc := ⟨.hbm, 280, rfl⟩
abbrev main_v222 : Ref sig .tc := ⟨.hbm, 281, rfl⟩
abbrev main_cst_34 : Ref sig .tc := ⟨.hbm, 282, rfl⟩
abbrev main_call5_v0 : Ref sig .tc := ⟨.hbm, 283, rfl⟩
abbrev main_call5_v1 : Ref sig .tc := ⟨.hbm, 284, rfl⟩
abbrev main_v223 : Ref sig .tc := ⟨.hbm, 285, rfl⟩
abbrev main_c_35 : Ref sig .tc := ⟨.hbm, 286, rfl⟩
abbrev main_v224 : Ref sig .tc := ⟨.hbm, 287, rfl⟩
abbrev main_v225 : Ref sig .tc := ⟨.hbm, 288, rfl⟩
abbrev main_c_36 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_cst_37 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_c_38 : Ref sig .tc := ⟨.hbm, 301, rfl⟩
abbrev main_v236 : Ref sig .tc := ⟨.hbm, 302, rfl⟩
abbrev main_v237 : Ref sig .tc := ⟨.hbm, 303, rfl⟩
abbrev main_c_39 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_c_40 : Ref sig .tc := ⟨.hbm, 312, rfl⟩
abbrev main_v245 : Ref sig .tc := ⟨.hbm, 313, rfl⟩
abbrev main_v246 : Ref sig .tc := ⟨.hbm, 314, rfl⟩
abbrev main_c_41 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_cst_42 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_cst_43 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_cst_44 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_cst_45 : Ref sig .tc := ⟨.hbm, 360, rfl⟩
abbrev main_v288 : Ref sig .tc := ⟨.hbm, 361, rfl⟩
abbrev main_v289 : Ref sig .tc := ⟨.hbm, 362, rfl⟩
abbrev main_v290 : Ref sig .tc := ⟨.hbm, 363, rfl⟩
abbrev main_v291 : Ref sig .tc := ⟨.hbm, 364, rfl⟩
abbrev main_v292 : Ref sig .tc := ⟨.hbm, 365, rfl⟩
abbrev main_v293 : Ref sig .tc := ⟨.hbm, 366, rfl⟩
abbrev main_v294 : Ref sig .tc := ⟨.hbm, 367, rfl⟩
abbrev main_v295 : Ref sig .tc := ⟨.hbm, 368, rfl⟩
abbrev main_v296 : Ref sig .tc := ⟨.hbm, 369, rfl⟩
abbrev main_v297 : Ref sig .tc := ⟨.hbm, 370, rfl⟩
abbrev main_v298 : Ref sig .tc := ⟨.hbm, 371, rfl⟩
abbrev main_v299 : Ref sig .tc := ⟨.hbm, 372, rfl⟩
abbrev main_v300 : Ref sig .tc := ⟨.hbm, 373, rfl⟩
abbrev main_v301 : Ref sig .tc := ⟨.hbm, 374, rfl⟩
abbrev main_v302 : Ref sig .tc := ⟨.hbm, 375, rfl⟩
abbrev main_v303 : Ref sig .tc := ⟨.hbm, 376, rfl⟩
abbrev main_cst_46 : Ref sig .tc := ⟨.hbm, 377, rfl⟩
abbrev main_call6_v0 : Ref sig .tc := ⟨.hbm, 378, rfl⟩
abbrev main_call6_v1 : Ref sig .tc := ⟨.hbm, 379, rfl⟩
abbrev main_call6_v2 : Ref sig .tc := ⟨.hbm, 380, rfl⟩
abbrev main_v304 : Ref sig .tc := ⟨.hbm, 381, rfl⟩
abbrev main_cst_47 : Ref sig .tc := ⟨.hbm, 382, rfl⟩
abbrev main_v305 : Ref sig .tc := ⟨.hbm, 383, rfl⟩
abbrev main_v306 : Ref sig .tc := ⟨.hbm, 384, rfl⟩
abbrev main_v307 : Ref sig .tc := ⟨.hbm, 385, rfl⟩
abbrev main_cst_48 : Ref sig .tc := ⟨.hbm, 386, rfl⟩
abbrev main_v308 : Ref sig .tc := ⟨.hbm, 387, rfl⟩
abbrev main_v309 : Ref sig .tc := ⟨.hbm, 388, rfl⟩
abbrev main_cst_49 : Ref sig .tc := ⟨.hbm, 389, rfl⟩
abbrev main_call7_v0 : Ref sig .tc := ⟨.hbm, 390, rfl⟩
abbrev main_call7_v1 : Ref sig .tc := ⟨.hbm, 391, rfl⟩
abbrev main_v310 : Ref sig .tc := ⟨.hbm, 392, rfl⟩
abbrev main_c_50 : Ref sig .tc := ⟨.hbm, 393, rfl⟩
abbrev main_v311 : Ref sig .tc := ⟨.hbm, 394, rfl⟩
abbrev main_v312 : Ref sig .tc := ⟨.hbm, 395, rfl⟩
abbrev main_c_51 : Ref sig .tc := ⟨.hbm, 396, rfl⟩
abbrev main_v313 : Ref sig .tc := ⟨.hbm, 397, rfl⟩
abbrev main_v314 : Ref sig .tc := ⟨.hbm, 398, rfl⟩
abbrev main_v315 : Ref sig .tc := ⟨.hbm, 399, rfl⟩
abbrev main_v316 : Ref sig .tc := ⟨.hbm, 400, rfl⟩
abbrev main_v317 : Ref sig .tc := ⟨.hbm, 401, rfl⟩
abbrev main_v318 : Ref sig .tc := ⟨.hbm, 402, rfl⟩
abbrev main_v319 : Ref sig .tc := ⟨.hbm, 403, rfl⟩
abbrev main_cst_52 : Ref sig .tc := ⟨.hbm, 404, rfl⟩
abbrev main_v320 : Ref sig .tc := ⟨.hbm, 405, rfl⟩
abbrev main_v321 : Ref sig .tc := ⟨.hbm, 406, rfl⟩
abbrev main_v322 : Ref sig .tc := ⟨.hbm, 407, rfl⟩
abbrev main_c_53 : Ref sig .tc := ⟨.hbm, 408, rfl⟩
abbrev main_v323 : Ref sig .tc := ⟨.hbm, 409, rfl⟩
abbrev main_v324 : Ref sig .tc := ⟨.hbm, 410, rfl⟩
abbrev main_c_54 : Ref sig .tc := ⟨.hbm, 411, rfl⟩
abbrev main_v325 : Ref sig .tc := ⟨.hbm, 412, rfl⟩
abbrev main_v326 : Ref sig .tc := ⟨.hbm, 413, rfl⟩
abbrev main_v327 : Ref sig .tc := ⟨.hbm, 414, rfl⟩
abbrev main_v328 : Ref sig .tc := ⟨.hbm, 415, rfl⟩
abbrev main_v329 : Ref sig .tc := ⟨.hbm, 416, rfl⟩
abbrev main_v330 : Ref sig .tc := ⟨.hbm, 417, rfl⟩
abbrev main_v331 : Ref sig .tc := ⟨.hbm, 418, rfl⟩
abbrev main_c_55 : Ref sig .tc := ⟨.hbm, 419, rfl⟩
abbrev main_v332 : Ref sig .tc := ⟨.hbm, 420, rfl⟩
abbrev main_v333 : Ref sig .tc := ⟨.hbm, 421, rfl⟩
abbrev main_c_56 : Ref sig .tc := ⟨.hbm, 422, rfl⟩
abbrev main_v334 : Ref sig .tc := ⟨.hbm, 423, rfl⟩
abbrev main_v335 : Ref sig .tc := ⟨.hbm, 424, rfl⟩
abbrev main_v336 : Ref sig .tc := ⟨.hbm, 425, rfl⟩
abbrev main_v337 : Ref sig .tc := ⟨.hbm, 426, rfl⟩
abbrev main_v338 : Ref sig .tc := ⟨.hbm, 427, rfl⟩
abbrev main_cst_57 : Ref sig .tc := ⟨.hbm, 428, rfl⟩
abbrev main_v339 : Ref sig .tc := ⟨.hbm, 429, rfl⟩
abbrev main_v340 : Ref sig .tc := ⟨.hbm, 430, rfl⟩
abbrev main_v341 : Ref sig .tc := ⟨.hbm, 431, rfl⟩
abbrev main_v342 : Ref sig .tc := ⟨.hbm, 432, rfl⟩
abbrev main_v343 : Ref sig .tc := ⟨.hbm, 433, rfl⟩
abbrev main_v344 : Ref sig .tc := ⟨.hbm, 434, rfl⟩
abbrev main_cst_58 : Ref sig .tc := ⟨.hbm, 435, rfl⟩
abbrev main_v345 : Ref sig .tc := ⟨.hbm, 436, rfl⟩
abbrev main_v346 : Ref sig .tc := ⟨.hbm, 437, rfl⟩
abbrev main_v347 : Ref sig .tc := ⟨.hbm, 438, rfl⟩
abbrev main_v348 : Ref sig .tc := ⟨.hbm, 439, rfl⟩
abbrev main_cst_59 : Ref sig .tc := ⟨.hbm, 440, rfl⟩
abbrev main_v349 : Ref sig .tc := ⟨.hbm, 441, rfl⟩
abbrev main_v350 : Ref sig .tc := ⟨.hbm, 442, rfl⟩

abbrev nD : Nat := 1
abbrev τ : Topo := Topo.v7x

variable {F : FTy → Type} [FloatOps F]
-- ==== Proof.Base.lean ====
/- What the runs of the kernel body at one grid point are stated over: the body's three conditions in closed
   form over the grid points, the staging and scratch memrefs, and the launch's invariant with the scratch
   buffers named. -/
module

public import proofs.«01_k».proof.Proof.Gen.KernelIdeal.Frame
public import proofs.«01_k».proof.Proof.Gen.KernelIdeal.Skeleton

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's conditions -/

/-- The body's first condition: the grid point is the first. -/
abbrev isFirst (i : grid0.Coords) : Prop :=
  (Scalar.cmpi .ne (Scalar.extui (Scalar.cmpi .eq (BitVec.ofNat 32 (i 0).val) 0#32)) 0#32) = 1#1
/-- The second: the grid point is the last of the first half. -/
abbrev isMid (i : grid0.Coords) : Prop :=
  (Scalar.cmpi .ne (Scalar.extui (Scalar.cmpi .eq (BitVec.ofNat 32 (i 0).val) 4#32)) 0#32) = 1#1
/-- The third: the grid point is the last. -/
abbrev isLast (i : grid0.Coords) : Prop := k0_cond3 i = 1#1

/-- The one grid coordinate of a point is the point's number. -/
theorem coord_val (t : Fin cfg0.N) : (grid0.coords t 0).val = t.val := by
  have ht : t.val < 10 := Nat.lt_of_lt_of_eq t.isLt N_0
  have e0 : (grid0.coords t 0).val = t.val / 1 % 10 := Pipeline.Grid.coords_val t 0 (by decide) rfl
  omega

theorem isFirst_iff (t : Fin cfg0.N) : isFirst (grid0.coords t) ↔ t.val = 0 := by
  have ht : t.val < 10 := Nat.lt_of_lt_of_eq t.isLt N_0
  simp only [isFirst, coord_val]
  word_cmp
theorem isMid_iff (t : Fin cfg0.N) : isMid (grid0.coords t) ↔ t.val = 4 := by
  have ht : t.val < 10 := Nat.lt_of_lt_of_eq t.isLt N_0
  simp only [isMid, coord_val]
  word_cmp
theorem isLast_iff (t : Fin cfg0.N) : isLast (grid0.coords t) ↔ t.val = 9 := by
  have ht : t.val < 10 := Nat.lt_of_lt_of_eq t.isLt N_0
  simp only [isLast, k0_cond3, coord_val]
  word_cmp

/-! ## The offsets of the stores into the two long scratch buffers -/

/-- The first row of sub-block `r` of point `i`'s half, in the two buffers that hold one half of the rows. -/
abbrev rowOf (i : grid0.Coords) (r : ℕ) : ℕ := 1024 * ((i 0).val % 5) + 256 * r

theorem off1_eq : ∀ (i : grid0.Coords) (r : Fin 4), k0_off1 i (BitVec.ofNat 32 (256 * r.val)) = ![0, 0, rowOf i r.val] := by decide +kernel
theorem off2_eq : ∀ (i : grid0.Coords) (r : Fin 4), k0_off2 i (BitVec.ofNat 32 (256 * r.val)) = ![1, 0, rowOf i r.val] := by decide +kernel
theorem off3_eq : ∀ (i : grid0.Coords) (r : Fin 4), k0_off3 i (BitVec.ofNat 32 (256 * r.val)) = ![2, 0, rowOf i r.val] := by decide +kernel
theorem off4_eq : ∀ (i : grid0.Coords) (r : Fin 4), k0_off4 i (BitVec.ofNat 32 (256 * r.val)) = ![3, 0, rowOf i r.val] := by decide +kernel
theorem off5_eq : ∀ (i : grid0.Coords) (r : Fin 4), k0_off5 i (BitVec.ofNat 32 (256 * r.val)) = ![rowOf i r.val, 0] := by decide +kernel

instance (i : grid0.Coords) : ClosedOff (k0_off1 i 0#32) := ⟨![0, 0, rowOf i 0], off1_eq i 0⟩
instance (i : grid0.Coords) : ClosedOff (k0_off1 i 256#32) := ⟨![0, 0, rowOf i 1], off1_eq i 1⟩
instance (i : grid0.Coords) : ClosedOff (k0_off1 i 512#32) := ⟨![0, 0, rowOf i 2], off1_eq i 2⟩
instance (i : grid0.Coords) : ClosedOff (k0_off1 i 768#32) := ⟨![0, 0, rowOf i 3], off1_eq i 3⟩
instance (i : grid0.Coords) : ClosedOff (k0_off2 i 0#32) := ⟨![1, 0, rowOf i 0], off2_eq i 0⟩
instance (i : grid0.Coords) : ClosedOff (k0_off2 i 256#32) := ⟨![1, 0, rowOf i 1], off2_eq i 1⟩
instance (i : grid0.Coords) : ClosedOff (k0_off2 i 512#32) := ⟨![1, 0, rowOf i 2], off2_eq i 2⟩
instance (i : grid0.Coords) : ClosedOff (k0_off2 i 768#32) := ⟨![1, 0, rowOf i 3], off2_eq i 3⟩
instance (i : grid0.Coords) : ClosedOff (k0_off3 i 0#32) := ⟨![2, 0, rowOf i 0], off3_eq i 0⟩
instance (i : grid0.Coords) : ClosedOff (k0_off3 i 256#32) := ⟨![2, 0, rowOf i 1], off3_eq i 1⟩
instance (i : grid0.Coords) : ClosedOff (k0_off3 i 512#32) := ⟨![2, 0, rowOf i 2], off3_eq i 2⟩
instance (i : grid0.Coords) : ClosedOff (k0_off3 i 768#32) := ⟨![2, 0, rowOf i 3], off3_eq i 3⟩
instance (i : grid0.Coords) : ClosedOff (k0_off4 i 0#32) := ⟨![3, 0, rowOf i 0], off4_eq i 0⟩
instance (i : grid0.Coords) : ClosedOff (k0_off4 i 256#32) := ⟨![3, 0, rowOf i 1], off4_eq i 1⟩
instance (i : grid0.Coords) : ClosedOff (k0_off4 i 512#32) := ⟨![3, 0, rowOf i 2], off4_eq i 2⟩
instance (i : grid0.Coords) : ClosedOff (k0_off4 i 768#32) := ⟨![3, 0, rowOf i 3], off4_eq i 3⟩
instance (i : grid0.Coords) : ClosedOff (k0_off5 i 0#32) := ⟨![rowOf i 0, 0], off5_eq i 0⟩
instance (i : grid0.Coords) : ClosedOff (k0_off5 i 256#32) := ⟨![rowOf i 1, 0], off5_eq i 1⟩
instance (i : grid0.Coords) : ClosedOff (k0_off5 i 512#32) := ⟨![rowOf i 2, 0], off5_eq i 2⟩
instance (i : grid0.Coords) : ClosedOff (k0_off5 i 768#32) := ⟨![rowOf i 3, 0], off5_eq i 3⟩

/-! ## The memrefs the body is called with -/

/-- Each window's current staging memref at point `t`. -/
abbrev st0 (t : Fin cfg0.N) : Memref sig .tc .vmem S1024x256 .bf16 := win0_0.stage (cfg0.slots t 0)
abbrev st1 (t : Fin cfg0.N) : Memref sig .tc .vmem S1x1x1024 .i32 := win0_1.stage (cfg0.slots t 1)
abbrev st2 (t : Fin cfg0.N) : Memref sig .tc .vmem S256x4096 .bf16 := win0_2.stage (cfg0.slots t 2)
abbrev st3 (t : Fin cfg0.N) : Memref sig .tc .vmem S8x2048 .f32 := win0_3.stage (cfg0.slots t 3)
abbrev st4 (t : Fin cfg0.N) : Memref sig .tc .vmem S2048x256 .bf16 := win0_4.stage (cfg0.slots t 4)
abbrev st5 (t : Fin cfg0.N) : Memref sig .tc .vmem S256x256 .f32 := win0_5.stage (cfg0.slots t 5)

/-- The four scratch buffers: the hidden rows, the weighted indicators, the denominators, the sums. -/
abbrev scWall : Memref sig .tc .vmem S5120x2048 .bf16 := Memref.whole cc0_scratch0
abbrev scOh : Memref sig .tc .vmem S4x256x5120 .bf16 := Memref.whole cc0_scratch1
abbrev scDen : Memref sig .tc .vmem S256x4 .f32 := Memref.whole cc0_scratch2
abbrev scSum : Memref sig .tc .vmem S256x2048 .f32 := Memref.whole cc0_scratch3

/-- The launch's invariant with the four scratch buffers as memrefs held at some contents. -/
theorem PhiA_eq (c : Dev nD) :
    (Pipeline.ΦA spec0 c : sProp 𝕄)
      = iprop(iprop((∃ d, owns (c : Thread nD τ) scWall fullShare d) ∗ (∃ d, owns (c : Thread nD τ) scOh fullShare d)
          ∗ (∃ d, owns (c : Thread nD τ) scDen fullShare d) ∗ (∃ d, owns (c : Thread nD τ) scSum fullShare d)) ∗ (∃ r, prngReg c r)) := by
  unfold Pipeline.ΦA; rw [scopedRest0_eq]; simp only [scWall, scOh, scDen, scSum, owns_whole]; try rfl

end Cert.KernelIdeal.Pool

end
-- ==== Proof.Runs.lean ====
/- The kernel body run once at each kind of grid point: the first, one of no special part, the last of the first
   half, the last. -/
module

public import proofs.«01_k».proof.Proof.Base

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The four kinds of grid point. -/
inductive Kind4 where
  | first | plain | half | last

/-- The point `i` is of the kind `k`: which of the body's three conditions hold there. -/
def Kind4.At (k : Kind4) (i : grid0.Coords) : Prop :=
  match k with
  | .first => isFirst i ∧ ¬isMid i ∧ ¬isLast i
  | .plain => ¬isFirst i ∧ ¬isMid i ∧ ¬isLast i
  | .half => ¬isFirst i ∧ isMid i ∧ ¬isLast i
  | .last => ¬isFirst i ∧ ¬isMid i ∧ isLast i

set_option maxHeartbeats 2000000 in
noncomputable def run (k : Kind4) (c : Dev nD) (i : grid0.Coords) (arg1 : Memref sig .tc .vmem S1024x256 .bf16) (harg1 : arg1.IsWhole) (arg2 : Memref sig .tc .vmem S1x1x1024 .i32) (harg2 : arg2.IsWhole) (arg3 : Memref sig .tc .vmem S256x4096 .bf16) (harg3 : arg3.IsWhole) (arg4 : Memref sig .tc .vmem S8x2048 .f32) (harg4 : arg4.IsWhole) (arg5 : Memref sig .tc .vmem S2048x256 .bf16) (harg5 : arg5.IsWhole) (arg6 : Memref sig .tc .vmem S256x256 .f32) (harg6 : arg6.IsWhole) (arg7 : Memref sig .tc .vmem S5120x2048 .bf16) (harg7 : arg7.IsWhole) (arg8 : Memref sig .tc .vmem S4x256x5120 .bf16) (harg8 : arg8.IsWhole) (arg9 : Memref sig .tc .vmem S256x4 .f32) (harg9 : arg9.IsWhole) (arg10 : Memref sig .tc .vmem S256x2048 .f32) (harg10 : arg10.IsWhole)
    (hk : k.At i)
    (x0 : Vec F S1024x256 .bf16) (x1 : Vec F S1x1x1024 .i32) (x2 : Vec F S256x4096 .bf16) (x3 : Vec F S8x2048 .f32) (x4 : Vec F S2048x256 .bf16)
    (xs0 : Vec F S5120x2048 .bf16) (xs1 : Vec F S4x256x5120 .bf16) (xs2 : Vec F S256x4 .f32) (xs3 : Vec F S256x2048 .f32) :
    Σ' (LO : List (View.Piece (Elt F) S256x256 .f32)) (LS0 : List (View.Piece (Elt F) S5120x2048 .bf16)) (LS1 : List (View.Piece (Elt F) S4x256x5120 .bf16)) (LS2 : List (View.Piece (Elt F) S256x4 .f32)), { LS3 : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f LO)
                ∗ (arg7.view.loc (c : Thread nD τ) ↦[arg7.view.set]{fullShare} arg7.view.writes (Elt F) (harg7.unread xs0) LS0)
                ∗ (arg8.view.loc (c : Thread nD τ) ↦[arg8.view.set]{fullShare} arg8.view.writes (Elt F) (harg8.unread xs1) LS1)
                ∗ (arg9.view.loc (c : Thread nD τ) ↦[arg9.view.set]{fullShare} arg9.view.writes (Elt F) (harg9.unread xs2) LS2)
                ∗ (arg10.view.loc (c : Thread nD τ) ↦[arg10.view.set]{fullShare} arg10.view.writes (Elt F) (harg10.unread xs3) LS3)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  rcases k with _ | _ | _ | _
  all_goals
    first
    | (have _ : isLast i := hk.2.2; refine ⟨?_, ?_, ?_, ?_, ?_, fun E K => ?_⟩)
    | (have _ : isMid i := hk.2.1; refine ⟨[], ?_, ?_, ?_, ?_, fun E K => ?_⟩)
    | refine ⟨[], ?_, ?_, ?_, [], fun E K => ?_⟩
    rotate_right
    simp only [cc0__body_eq_skeleton]; unfold cc0__body_skel
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0; obtain rfl := harg8.eq_unread hfs1; obtain rfl := harg9.eq_unread hfs2; obtain rfl := harg10.eq_unread hfs3
    sl_exec (disch := first | sl_exact hk.1 | sl_exact hk.2.1 | sl_exact hk.2.2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; first | iexact H5 | (sl_exact H5)
    isplitl [HS0]; · iexact HS0
    isplitl [HS1]; · iexact HS1
    isplitl [HS2]; · iexact HS2
    iexact HS3

end Cert.KernelIdeal.Pool

end
-- ==== Proof.Contents.lean ====
/- What the kernel body computes from the blocks it loads, and that the four runs store exactly that: the hidden
   rows, the weighted indicators, the denominators, the sums and the output. -/
module

public import proofs.«01_k».proof.Proof.Runs

@[expose] public section

set_option maxRecDepth 65536

noncomputable section

namespace Cert.KernelIdeal.Pool

open Idealize.ShloMosaic Idealize.ShloMosaic.TcCoe Idealize.ShloMosaic.Tactic
open Idealize.SL Idealize.SL.Sem
open Cert.KernelIdeal.Gen

variable {F : FTy → Type} [FloatOps F]

/-! ## One sub-block of 256 rows -/

/-- The `r`-th group of 256 rows of a block of 1024. -/
def xRect (r : Fin 4) : Rect S1024x256 :=
  Rect.unit ![256 * r.val, 0] S256x256.size (by revert r; decide)

/-- The `h`-th head's stretch of the gate row. -/
def gRect (h : Fin 4) : Rect S8x2048 :=
  Rect.unit ![0, 512 * h.val] S1x512.size (by revert h; decide)

/-- The hidden rows of a sub-block, as stored: the second half of the columns of `relu (x W)`. -/
def uBlk (x : Vec F S256x256 .bf16) (w : Vec F S256x4096 .bf16) : FVec F S256x2048 .bf16 :=
  k0_pay29 (k0_pay18 x w)

/-- The exponentials of a sub-block's gates, one column per head. -/
def eBlk (x : Vec F S256x256 .bf16) (w : Vec F S256x4096 .bf16) (g : Fin 4 → Vec F S1x512 .f32) : FVec F S256x4 .bf16 :=
  k0_pay21 (k0_pay19 x w) (k0_pay20 x w (g 0)) (g 1) (g 2) (g 3)

/-- The indicators of one sub-block: which of its rows belong to which graph. -/
def indBlk (r : Fin 4) (v : FVec F S256x1024 .bf16) : FVec F S256x256 .bf16 :=
  match r with
  | 0 => k0_pay23 v
  | 1 => k0_pay36 v
  | 2 => k0_pay48 v
  | 3 => k0_pay60 v

/-- One head's row of the transposed exponentials. -/
def headRow (h : Fin 4) (v : FVec F S4x256 .bf16) : FVec F S1x256 .bf16 :=
  match h with
  | 0 => extractStridedSlice S1x256 ![0, 0] v slices_S4x256_o0_0_S1x256
  | 1 => extractStridedSlice S1x256 ![1, 0] v slices_S4x256_o1_0_S1x256
  | 2 => extractStridedSlice S1x256 ![2, 0] v slices_S4x256_o2_0_S1x256
  | 3 => extractStridedSlice S1x256 ![3, 0] v slices_S4x256_o3_0_S1x256

/-- One head's indicators of a sub-block, each weighted by its row's exponential. -/
def ohBlk (h : Fin 4) (e : FVec F S256x4 .bf16) (ind : FVec F S256x256 .bf16) : FVec F S1x256x256 .bf16 :=
  k0_pay27 ind (headRow h (transpose S4x256 [1, 0] e transposes_S256x4_p1_0_S4x256))

/-- One step of the denominators: the sub-block's exponentials summed by graph, added on. -/
def denStep (e : FVec F S256x4 .bf16) (ind : FVec F S256x256 .bf16) (d : Vec F S256x4 .f32) : FVec F S256x4 .f32 :=
  k0_pay30 e ind d

/-- One store of a sub-block's hidden rows. -/
def wallPiece (i : grid0.Coords) (x : Fin 4 → Vec F S256x256 .bf16) (w : Vec F S256x4096 .bf16) (r : Fin 4) :
    View.Piece (Elt F) S5120x2048 .bf16 :=
  ⟨Rect.unit (k0_off5 i (BitVec.ofNat 32 (256 * r.val))) S256x2048.size (k0_off5_inb i r), uBlk (x r) w⟩

/-- The four stores into the buffer of hidden rows, last first. -/
def wallL (i : grid0.Coords) (x : Fin 4 → Vec F S256x256 .bf16) (w : Vec F S256x4096 .bf16) :
    List (View.Piece (Elt F) S5120x2048 .bf16) :=
  [wallPiece i x w 3, wallPiece i x w 2, wallPiece i x w 1, wallPiece i x w 0]

/-- Where head `h`'s weighted indicators of a sub-block go. -/
def ohRect (i : grid0.Coords) (h r : Fin 4) : Rect S4x256x5120 :=
  match h with
  | 0 => Rect.unit (k0_off1 i (BitVec.ofNat 32 (256 * r.val))) S1x256x256.size (k0_off1_inb i r)
  | 1 => Rect.unit (k0_off2 i (BitVec.ofNat 32 (256 * r.val))) S1x256x256.size (k0_off2_inb i r)
  | 2 => Rect.unit (k0_off3 i (BitVec.ofNat 32 (256 * r.val))) S1x256x256.size (k0_off3_inb i r)
  | 3 => Rect.unit (k0_off4 i (BitVec.ofNat 32 (256 * r.val))) S1x256x256.size (k0_off4_inb i r)

/-- One store of one head's weighted indicators of a sub-block. -/
def ohPiece (i : grid0.Coords) (e : Fin 4 → FVec F S256x4 .bf16) (v : FVec F S256x1024 .bf16) (h r : Fin 4) :
    View.Piece (Elt F) S4x256x5120 .bf16 :=
  match h with
  | 0 => ⟨ohRect i 0 r, ohBlk 0 (e r) (indBlk r v)⟩
  | 1 => ⟨ohRect i 1 r, ohBlk 1 (e r) (indBlk r v)⟩
  | 2 => ⟨ohRect i 2 r, ohBlk 2 (e r) (indBlk r v)⟩
  | 3 => ⟨ohRect i 3 r, ohBlk 3 (e r) (indBlk r v)⟩

/-- The sixteen stores into the buffer of weighted indicators, last first. -/
def ohL (i : grid0.Coords) (e : Fin 4 → FVec F S256x4 .bf16) (v : FVec F S256x1024 .bf16) :
    List (View.Piece (Elt F) S4x256x5120 .bf16) :=
  [ohPiece i e v 3 3, ohPiece i e v 2 3, ohPiece i e v 1 3, ohPiece i e v 0 3,
   ohPiece i e v 3 2, ohPiece i e v 2 2, ohPiece i e v 1 2, ohPiece i e v 0 2,
   ohPiece i e v 3 1, ohPiece i e v 2 1, ohPiece i e v 1 1, ohPiece i e v 0 1,
   ohPiece i e v 3 0, ohPiece i e v 2 0, ohPiece i e v 1 0, ohPiece i e v 0 0]

/-- The whole of the buffer of denominators. -/
def denRect : Rect S256x4 := Rect.unit ![0, 0] S256x4.size inb_S256x4_S256x4_0_0

/-- One store into the buffer of denominators, over earlier ones. -/
def denCons (e : Fin 4 → FVec F S256x4 .bf16) (v : FVec F S256x1024 .bf16) (r : Fin 4) (d : Vec F S256x4 .f32)
    (L : List (View.Piece (Elt F) S256x4 .f32)) : List (View.Piece (Elt F) S256x4 .f32) :=
  ⟨denRect, denStep (e r) (indBlk r v) d⟩ :: L

/-- The denominators after a point, from those before it. -/
def denPt (e : Fin 4 → FVec F S256x4 .bf16) (v : FVec F S256x1024 .bf16) (d : Vec F S256x4 .f32) : Vec F S256x4 .f32 :=
  denStep (e 3) (indBlk 3 v) (denStep (e 2) (indBlk 2 v) (denStep (e 1) (indBlk 1 v) (denStep (e 0) (indBlk 0 v) d)))

/-- One head's columns of the sums, -/
def colRect (h : Fin 4) : Rect S256x2048 := Rect.unit ![0, 512 * h.val] S256x512.size (by revert h; decide)
/-- of the hidden rows, -/
def wallCol (h : Fin 4) : Rect S5120x2048 := Rect.unit ![0, 512 * h.val] S5120x512.size (by revert h; decide)
/-- and its layer of the weighted indicators. -/
def ohLayer (h : Fin 4) : Rect S4x256x5120 := Rect.unit ![h.val, 0, 0] S1x256x5120.size (by revert h; decide)

/-- One head's sums over the first half of the rows. -/
def halfSum (oh : Vec F S4x256x5120 .bf16) (wall : Vec F S5120x2048 .bf16) (h : Fin 4) : Vec F S256x512 .f32 :=
  k0_pay4 (fun y => oh ((ohLayer h).toLoadRect.idx y)) (fun y => wall ((wallCol h).toLoadRect.idx y))

/-- One head's sums over all the rows, from those over the first half. -/
def fullSum (oh : Vec F S4x256x5120 .bf16) (wall : Vec F S5120x2048 .bf16) (s : Vec F S256x2048 .f32) (h : Fin 4) : Vec F S256x512 .f32 :=
  k0_pay8 (fun y => oh ((ohLayer h).toLoadRect.idx y)) (fun y => wall ((wallCol h).toLoadRect.idx y))
    (fun y => s ((colRect h).toLoadRect.idx y))

/-- The output: each head's sums divided by its denominators, times the second weights, averaged. -/
def finOut (den : Vec F S256x4 .f32) (s : Fin 4 → Vec F S256x512 .f32) (w2 : Vec F S2048x256 .bf16) : Vec F S256x256 .f32 :=
  k0_pay3 (k0_pay12 den (s 0)) (k0_pay13 den (s 1)) (k0_pay14 den (s 2)) (k0_pay15 den) (s 3) w2

/-- The four stores into the buffer of sums, last first. -/
def sumL (s : Fin 4 → Vec F S256x512 .f32) : List (View.Piece (Elt F) S256x2048 .f32) :=
  [⟨colRect 3, s 3⟩, ⟨colRect 2, s 2⟩, ⟨colRect 1, s 1⟩, ⟨colRect 0, s 0⟩]

section
variable (k : Kind4) (c : Dev nD) (i : grid0.Coords) (arg1 : Memref sig .tc .vmem S1024x256 .bf16) (harg1 : arg1.IsWhole) (arg2 : Memref sig .tc .vmem S1x1x1024 .i32) (harg2 : arg2.IsWhole) (arg3 : Memref sig .tc .vmem S256x4096 .bf16) (harg3 : arg3.IsWhole) (arg4 : Memref sig .tc .vmem S8x2048 .f32) (harg4 : arg4.IsWhole) (arg5 : Memref sig .tc .vmem S2048x256 .bf16) (harg5 : arg5.IsWhole) (arg6 : Memref sig .tc .vmem S256x256 .f32) (harg6 : arg6.IsWhole) (arg7 : Memref sig .tc .vmem S5120x2048 .bf16) (harg7 : arg7.IsWhole) (arg8 : Memref sig .tc .vmem S4x256x5120 .bf16) (harg8 : arg8.IsWhole) (arg9 : Memref sig .tc .vmem S256x4 .f32) (harg9 : arg9.IsWhole) (arg10 : Memref sig .tc .vmem S256x2048 .f32) (harg10 : arg10.IsWhole)
    (hk : k.At i)
    (x0 : Vec F S1024x256 .bf16) (x1 : Vec F S1x1x1024 .i32) (x2 : Vec F S256x4096 .bf16) (x3 : Vec F S8x2048 .f32) (x4 : Vec F S2048x256 .bf16)
    (xs0 : Vec F S5120x2048 .bf16) (xs1 : Vec F S4x256x5120 .bf16) (xs2 : Vec F S256x4 .f32) (xs3 : Vec F S256x2048 .f32)

/-- The groups of 256 rows as the body loads them, -/
def ldX (r : Fin 4) : Vec F S256x256 .bf16 := View.readAt (Elt F) arg1.view (xRect r).toLoadRect (harg1.unread x0)
/-- the weights, -/
def ldW : Vec F S256x4096 .bf16 :=
  View.readAt (Elt F) arg3.view (Rect.unit ![0, 0] S256x4096.size inb_S256x4096_S256x4096_0_0).toLoadRect (harg3.unread x2)
/-- the gate rows. -/
def ldG (h : Fin 4) : Vec F S1x512 .f32 := View.readAt (Elt F) arg4.view (gRect h).toLoadRect (harg4.unread x3)
/-- the batch. -/
def ldB : Vec F S1x1x1024 .i32 :=
  View.readAt (Elt F) arg2.view (Rect.unit ![0, 0, 0] S1x1x1024.size inb_S1x1x1024_S1x1x1024_0_0_0).toLoadRect (harg2.unread x1)

/-- The second weights. -/
def ldW2 : Vec F S2048x256 .bf16 :=
  View.readAt (Elt F) arg5.view (Rect.unit ![0, 0] S2048x256.size inb_S2048x256_S2048x256_0_0).toLoadRect (harg5.unread x4)
/-- The sub-blocks' exponentials. -/
def ldE (r : Fin 4) : FVec F S256x4 .bf16 := eBlk (ldX arg1 harg1 x0 r) (ldW arg3 harg3 x2) (ldG arg4 harg4 x3)
/-- The indicators. -/
def ldV : FVec F S256x1024 .bf16 := k0_pay17 (ldB arg2 harg2 x1)

set_option maxHeartbeats 1000000 in
theorem run_wall : (run k c i arg1 harg1 arg2 harg2 arg3 harg3 arg4 harg4 arg5 harg5 arg6 harg6 arg7 harg7 arg8 harg8 arg9 harg9 arg10 harg10 hk x0 x1 x2 x3 x4 xs0 xs1 xs2 xs3).2.1 = wallL i (ldX arg1 harg1 x0) (ldW arg3 harg3 x2) := by
  cases k <;> rfl

set_option maxHeartbeats 1000000 in
theorem run_oh : (run k c i arg1 harg1 arg2 harg2 arg3 harg3 arg4 harg4 arg5 harg5 arg6 harg6 arg7 harg7 arg8 harg8 arg9 harg9 arg10 harg10 hk x0 x1 x2 x3 x4 xs0 xs1 xs2 xs3).2.2.1 = ohL i (ldE arg1 harg1 arg3 harg3 arg4 harg4 x0 x2 x3) (ldV arg2 harg2 x1) := by
  cases k <;> rfl

/-- What the buffer of weighted indicators holds at its last load, -/
def ohNow : Vec F S4x256x5120 .bf16 :=
  arg8.view.read (Elt F) (arg8.view.writes (Elt F) (harg8.unread xs1) (ohL i (ldE arg1 harg1 arg3 harg3 arg4 harg4 x0 x2 x3) (ldV arg2 harg2 x1)))
/-- and the buffer of hidden rows. -/
def wallNow : Vec F S5120x2048 .bf16 :=
  arg7.view.read (Elt F) (arg7.view.writes (Elt F) (harg7.unread xs0) (wallL i (ldX arg1 harg1 x0) (ldW arg3 harg3 x2)))
/-- What the buffer of sums holds on entry. -/
def sumNow : Vec F S256x2048 .f32 := arg10.view.read (Elt F) (harg10.unread xs3)
/-- What the buffer of denominators is read to hold on entry. -/
def denNow : Vec F S256x4 .f32 := View.readAt (Elt F) arg9.view denRect.toLoadRect (harg9.unread xs2)

/-- The stores into the buffer of denominators, over those before the first load from it. -/
def denL (d : Vec F S256x4 .f32) (L : List (View.Piece (Elt F) S256x4 .f32)) : List (View.Piece (Elt F) S256x4 .f32) :=
  let e := (ldE arg1 harg1 arg3 harg3 arg4 harg4 x0 x2 x3)
  let v := (ldV arg2 harg2 x1)
  let L1 := denCons e v 0 d L
  let L2 := denCons e v 1 (arg9.view.readCov L1 denRect.toLoadRect) L1
  let L3 := denCons e v 2 (arg9.view.readCov L2 denRect.toLoadRect) L2
  denCons e v 3 (arg9.view.readCov L3 denRect.toLoadRect) L3

set_option maxHeartbeats 1000000 in
theorem run_den_first (hk : Kind4.first.At i) : (run Kind4.first c i arg1 harg1 arg2 harg2 arg3 harg3 arg4 harg4 arg5 harg5 arg6 harg6 arg7 harg7 arg8 harg8 arg9 harg9 arg10 harg10 hk x0 x1 x2 x3 x4 xs0 xs1 xs2 xs3).2.2.2.1
    = denL arg1 harg1 arg2 harg2 arg3 harg3 arg4 harg4 arg9 x0 x1 x2 x3 (arg9.view.readCov [⟨denRect, k0_pay16⟩] denRect.toLoadRect) [⟨denRect, k0_pay16⟩] := rfl

set_option maxHeartbeats 1000000 in
theorem run_den (hne : k ≠ .first) : (run k c i arg1 harg1 arg2 harg2 arg3 harg3 arg4 harg4 arg5 harg5 arg6 harg6 arg7 harg7 arg8 harg8 arg9 harg9 arg10 harg10 hk x0 x1 x2 x3 x4 xs0 xs1 xs2 xs3).2.2.2.1 = denL arg1 harg1 arg2 harg2 arg3 harg3 arg4 harg4 arg9 x0 x1 x2 x3 (denNow arg9 harg9 xs2) [] := by
  cases k
  · exact absurd rfl hne
  all_goals rfl

set_option maxHeartbeats 1000000 in
theorem run_sum_half (hk : Kind4.half.At i) : (run Kind4.half c i arg1 harg1 arg2 harg2 arg3 harg3 arg4 harg4 arg5 harg5 arg6 harg6 arg7 harg7 arg8 harg8 arg9 harg9 arg10 harg10 hk x0 x1 x2 x3 x4 xs0 xs1 xs2 xs3).2.2.2.2.1
    = sumL (halfSum (ohNow i arg1 harg1 arg2 harg2 arg3 harg3 arg4 harg4 arg8 harg8 x0 x1 x2 x3 xs1) (wallNow i arg1 harg1 arg3 harg3 arg7 harg7 x0 x2 xs0)) := rfl

set_option maxHeartbeats 1000000 in
theorem run_sum_last (hk : Kind4.last.At i) : (run Kind4.last c i arg1 harg1 arg2 harg2 arg3 harg3 arg4 harg4 arg5 harg5 arg6 harg6 arg7 harg7 arg8 harg8 arg9 harg9 arg10 harg10 hk x0 x1 x2 x3 x4 xs0 xs1 xs2 xs3).2.2.2.2.1
    = sumL (fullSum (ohNow i arg1 harg1 arg2 harg2 arg3 harg3 arg4 harg4 arg8 harg8 x0 x1 x2 x3 xs1) (wallNow i arg1 harg1 arg3 harg3 arg7 harg7 x0 x2 xs0) (sumNow arg10 harg10 xs3)) := rfl

theorem run_sum_other (h1 : k ≠ .half) (h2 : k ≠ .last) : (run k c i arg1 harg1 arg2 harg2 arg3 harg3 arg4 harg4 arg5 harg5 arg6 harg6 arg7 harg7 arg8 harg8 arg9 harg9 arg10 harg10 hk x0 x1 x2 x3 x4 xs0 xs1 xs2 xs3).2.2.2.2.1 = [] := by
  cases k
  · rfl
  · rfl
  · exact absurd rfl h1
  · exact absurd rfl h2

/-- The whole of the output block. -/
def outRect : Rect S256x256 := Rect.unit ![0, 0] S256x256.size inb_S256x256_S256x256_0_0

set_option maxHeartbeats 1000000 in
theorem run_out_last (hk : Kind4.last.At i) : (run Kind4.last c i arg1 harg1 arg2 harg2 arg3 harg3 arg4 harg4 arg5 harg5 arg6 harg6 arg7 harg7 arg8 harg8 arg9 harg9 arg10 harg10 hk x0 x1 x2 x3 x4 xs0 xs1 xs2 xs3).1
    = [⟨outRect, finOut (arg9.view.readCov (denL arg1 harg1 arg2 harg2 arg3 harg3 arg4 harg4 arg9 x0 x1 x2 x3 (denNow arg9 harg9 xs2) []) denRect.toLoadRect)
        (fun h => arg10.view.readCov (sumL (fullSum (ohNow i arg1 harg1 arg2 harg2 arg3 harg3 arg4 harg4 arg8 harg8 x0 x1 x2 x3 xs1) (wallNow i arg1 harg1 arg3 harg3 arg7 harg7 x0 x2 xs0) (sumNow arg10 harg10 xs3))) (colRect h).toLoadRect)
        (ldW2 arg5 harg5 x4)⟩] := rfl

theorem run_out_other (h : k ≠ .last) : (run k c i arg1 harg1 arg2 harg2 arg3 harg3 arg4 harg4 arg5 harg5 arg6 harg6 arg7 harg7 arg8 harg8 arg9 harg9 arg10 harg10 hk x0 x1 x2 x3 x4 xs0 xs1 xs2 xs3).1 = [] := by
  cases k
  · rfl
  · rfl
  · rfl
  · exact absurd rfl h

end

end Cert.KernelIdeal.Pool

end
-- ==== Proof.Reads.lean ====
/- What the kernel's buffers hold after one grid point, as functions of what they held before it. -/
module

public import proofs.«01_k».proof.Proof.Contents
public import Idealize.ShloMosaic.Lib.Pointwise.Index
public import Idealize.ShloMosaic.Lib.VecWindow
public import Idealize.ShloMosaic.Lib.WholeRead

@[expose] public section

set_option maxRecDepth 65536

noncomputable section

namespace Cert.KernelIdeal.Pool

open Idealize.ShloMosaic Idealize.ShloMosaic.TcCoe Idealize.ShloMosaic.Tactic
open Idealize.SL Idealize.SL.Sem
open Cert.KernelIdeal.Gen

variable {F : FTy → Type} [FloatOps F]

/-- Which of a block's four sub-blocks a row is in, -/
def subOf (n : ℕ) : Fin 4 := ⟨n % 1024 / 256, by omega⟩
/-- and which of that sub-block's rows it is. -/
def inSub (n : ℕ) : Fin 256 := ⟨n % 256, by omega⟩

/-- The hidden rows of a block, repeated every 1024 rows. -/
def uAt (x : Fin 4 → Vec F S256x256 .bf16) (w : Vec F S256x4096 .bf16) : Vec F S5120x2048 .bf16 :=
  fun y => uBlk (x (subOf (y 0).val)) w (ix2 (inSub (y 0).val) (y 1))

/-- The weighted indicators of a block, repeated every 1024 columns. -/
def ohAt (e : Fin 4 → FVec F S256x4 .bf16) (v : FVec F S256x1024 .bf16) : Vec F S4x256x5120 .bf16 :=
  fun y => ohBlk (y 0) (e (subOf (y 2).val)) (indBlk (subOf (y 2).val) v) (ix3 0 (y 1) (inSub (y 2).val))

theorem subOf_row (q : ℕ) (r : Fin 4) (k : ℕ) (hk : k < 256) : subOf (1024 * q + 256 * r.val + k) = r := by
  apply Fin.ext; simp only [subOf]; have := r.isLt; omega

theorem inSub_row (q : ℕ) (r : Fin 4) (k : Fin 256) : inSub (1024 * q + 256 * r.val + k.val) = k := by
  apply Fin.ext; simp only [inSub]; have := k.isLt; have := r.isLt; omega

theorem wallPiece_mem (i : grid0.Coords) (x : Fin 4 → Vec F S256x256 .bf16) (w : Vec F S256x4096 .bf16) (r : Fin 4) :
    wallPiece i x w r ∈ wallL i x w := by
  match r with
  | 0 => simp [wallL]
  | 1 => simp [wallL]
  | 2 => simp [wallL]
  | 3 => simp [wallL]

theorem of_mem_wallL (i : grid0.Coords) (x : Fin 4 → Vec F S256x256 .bf16) (w : Vec F S256x4096 .bf16)
    (p : View.Piece (Elt F) S5120x2048 .bf16) (hp : p ∈ wallL i x w) : ∃ r, p = wallPiece i x w r := by
  simp only [wallL, List.mem_cons, List.not_mem_nil, or_false] at hp
  rcases hp with h | h | h | h
  exacts [⟨3, h⟩, ⟨2, h⟩, ⟨1, h⟩, ⟨0, h⟩]

theorem mem_wallPiece (i : grid0.Coords) (x : Fin 4 → Vec F S256x256 .bf16) (w : Vec F S256x4096 .bf16) (r : Fin 4)
    (y : S5120x2048.Idx) : y ∈ (wallPiece i x w r).1.set ↔ rowOf i r.val ≤ (y 0).val ∧ (y 0).val < rowOf i r.val + 256 := by
  unfold wallPiece
  rw [Rect.mem_set_unit, Fin.forall_fin_two, off5_eq]
  constructor
  · rintro ⟨h, _⟩; exact h
  · intro h; exact ⟨h, Nat.zero_le _, by show _ < 0 + 2048; rw [Nat.zero_add]; exact (y 1).isLt⟩

theorem wallPiece_val (i : grid0.Coords) (x : Fin 4 → Vec F S256x256 .bf16) (w : Vec F S256x4096 .bf16) (r : Fin 4)
    (z : (wallPiece i x w r).1.shape.Idx) : (wallPiece i x w r).2 z = uAt x w ((wallPiece i x w r).1.emb z) := by
  have h0 : ((wallPiece i x w r).1.emb z 0).val = 1024 * ((i 0).val % 5) + 256 * r.val + (z 0).val := by
    show k0_off5 i (BitVec.ofNat 32 (256 * r.val)) 0 + 1 * (z 0).val = _
    rw [off5_eq]; show 1024 * ((i 0).val % 5) + 256 * r.val + 1 * (z 0).val = _; omega
  have h1 : ((wallPiece i x w r).1.emb z 1) = z 1 := by
    apply Fin.ext
    show k0_off5 i (BitVec.ofNat 32 (256 * r.val)) 1 + 1 * (z 1).val = _
    rw [off5_eq]; show 0 + 1 * (z 1).val = _; omega
  show uBlk (x r) w z = uBlk _ w _
  have hz : (z 0).val < 256 := (z 0).isLt
  have ha := subOf_row ((i 0).val % 5) r (z 0).val hz
  have hb := inSub_row ((i 0).val % 5) r (z 0)
  rw [h0, h1, ha, hb]
  congr 1
  exact (ix2_eta (n0 := 256) (n1 := 2048) z).symm

/-- The buffer of hidden rows after the point's stores: the point's own rows in its block of 1024, the others as
    they were. -/
theorem read_wall {κ : Kind} {sp : Space} (v : View sig κ sp S5120x2048 .bf16) (f : v.ty.Contents (Elt F)) (i : grid0.Coords)
    (x : Fin 4 → Vec F S256x256 .bf16) (w : Vec F S256x4096 .bf16) :
    v.read (Elt F) (v.writes (Elt F) f (wallL i x w))
      = fun y => if (y 0).val / 1024 = (i 0).val % 5 then uAt x w y else v.read (Elt F) f y := by
  funext y
  by_cases h : (y 0).val / 1024 = (i 0).val % 5
  · rw [if_pos h]
    refine View.read_writes_apply_of_pieces v f (uAt x w) _ ?_ y ⟨wallPiece i x w (subOf (y 0).val), wallPiece_mem .., ?_⟩
    · intro p hp z
      obtain ⟨r, rfl⟩ := of_mem_wallL i x w p hp
      exact wallPiece_val i x w r z
    · rw [mem_wallPiece]; simp only [rowOf, subOf]; omega
  · rw [if_neg h]
    refine View.read_writes_apply_of_forall_not_mem v f y _ fun p hp hm => h ?_
    obtain ⟨r, rfl⟩ := of_mem_wallL i x w p hp
    rw [mem_wallPiece] at hm; simp only [rowOf] at hm; have := r.isLt; omega

theorem ohRect_mem (i : grid0.Coords) (h r : Fin 4) (y : S4x256x5120.Idx) :
    y ∈ (ohRect i h r).set ↔ y 0 = h ∧ rowOf i r.val ≤ (y 2).val ∧ (y 2).val < rowOf i r.val + 256 := by
  have key : (∀ a, (![h.val, 0, rowOf i r.val] : Fin 3 → ℕ) a ≤ (y a).val ∧ (y a).val < (![h.val, 0, rowOf i r.val] : Fin 3 → ℕ) a + S1x256x256.size a)
      ↔ y 0 = h ∧ rowOf i r.val ≤ (y 2).val ∧ (y 2).val < rowOf i r.val + 256 := by
    rw [Fin.forall_fin_succ, Fin.forall_fin_two]
    have e1 : (y 1).val < 256 := (y 1).isLt
    constructor
    · rintro ⟨⟨a, b⟩, _, c⟩
      have a' : h.val ≤ (y 0).val := a
      have b' : (y 0).val < h.val + 1 := b
      exact ⟨Fin.ext (by omega), c⟩
    · rintro ⟨a, c⟩
      refine ⟨⟨?_, ?_⟩, ⟨Nat.zero_le _, ?_⟩, c⟩
      · show h.val ≤ (y 0).val; rw [a]
      · show (y 0).val < h.val + 1; rw [a]; omega
      · show (y 1).val < 0 + 256; omega
  match h, key with
  | 0, key => unfold ohRect; rw [Rect.mem_set_unit, off1_eq]; exact key
  | 1, key => unfold ohRect; rw [Rect.mem_set_unit, off2_eq]; exact key
  | 2, key => unfold ohRect; rw [Rect.mem_set_unit, off3_eq]; exact key
  | 3, key => unfold ohRect; rw [Rect.mem_set_unit, off4_eq]; exact key

theorem of_mem_ohL (i : grid0.Coords) (e : Fin 4 → FVec F S256x4 .bf16) (v : FVec F S256x1024 .bf16)
    (p : View.Piece (Elt F) S4x256x5120 .bf16) (hp : p ∈ ohL i e v) : ∃ h r, p = ohPiece i e v h r := by
  simp only [ohL, List.mem_cons, List.not_mem_nil, or_false] at hp
  rcases hp with h | h | h | h | h | h | h | h | h | h | h | h | h | h | h | h <;> exact ⟨_, _, h⟩

theorem ohPiece_mem (i : grid0.Coords) (e : Fin 4 → FVec F S256x4 .bf16) (v : FVec F S256x1024 .bf16) (h r : Fin 4) :
    ohPiece i e v h r ∈ ohL i e v := by
  unfold ohL
  match h, r with
  | 0, 0 | 0, 1 | 0, 2 | 0, 3 | 1, 0 | 1, 1 | 1, 2 | 1, 3 | 2, 0 | 2, 1 | 2, 2 | 2, 3 | 3, 0 | 3, 1 | 3, 2 | 3, 3 =>
    simp only [List.mem_cons, true_or, or_true]

theorem ohPiece_set (i : grid0.Coords) (e : Fin 4 → FVec F S256x4 .bf16) (v : FVec F S256x1024 .bf16) (h r : Fin 4) :
    (ohPiece i e v h r).1 = ohRect i h r := by
  match h with
  | 0 => rfl
  | 1 => rfl
  | 2 => rfl
  | 3 => rfl

/-- Where an entry of a head's sub-block goes, coordinate by coordinate. -/
theorem ohRect_emb {off : Fin 3 → ℕ} (inb : ∀ a, off a + S1x256x256.size a ≤ S4x256x5120.size a) (i : grid0.Coords) (h r : Fin 4)
    (e : off = ![h.val, 0, rowOf i r.val]) (z : S1x256x256.Idx) :
    (Rect.unit (s := S4x256x5120) off S1x256x256.size inb).emb z 0 = h
      ∧ (Rect.unit (s := S4x256x5120) off S1x256x256.size inb).emb z 1 = z 1
      ∧ ((Rect.unit (s := S4x256x5120) off S1x256x256.size inb).emb z 2).val = 1024 * ((i 0).val % 5) + 256 * r.val + (z 2).val := by
  subst e
  refine ⟨Fin.ext ?_, Fin.ext ?_, ?_⟩
  · show h.val + 1 * (z 0).val = h.val
    have : (z 0).val < 1 := (z 0).isLt
    omega
  · show 0 + 1 * (z 1).val = (z 1).val
    omega
  · show 1024 * ((i 0).val % 5) + 256 * r.val + 1 * (z 2).val = _
    omega

theorem ohAt_emb (i : grid0.Coords) (e : Fin 4 → FVec F S256x4 .bf16) (v : FVec F S256x1024 .bf16) (h r : Fin 4)
    (z : S1x256x256.Idx) (y : S4x256x5120.Idx) (h0 : y 0 = h) (h1 : y 1 = z 1)
    (h2 : (y 2).val = 1024 * ((i 0).val % 5) + 256 * r.val + (z 2).val) :
    ohBlk h (e r) (indBlk r v) z = ohAt e v y := by
  have hz : (z 2).val < 256 := (z 2).isLt
  have ha := subOf_row ((i 0).val % 5) r (z 2).val hz
  have hb := inSub_row ((i 0).val % 5) r (z 2)
  show _ = ohBlk (y 0) _ _ _
  rw [h0, h1, h2, ha, hb]
  congr 1
  rw [eq_ix3 (n0 := 1) (n1 := 256) (n2 := 256) z]
  congr 1
  exact Subsingleton.elim (α := Fin 1) _ _

theorem ohPiece_val (i : grid0.Coords) (e : Fin 4 → FVec F S256x4 .bf16) (v : FVec F S256x1024 .bf16) (h r : Fin 4)
    (z : (ohPiece i e v h r).1.shape.Idx) : (ohPiece i e v h r).2 z = ohAt e v ((ohPiece i e v h r).1.emb z) := by
  match h, z with
  | 0, z => exact have q := ohRect_emb (k0_off1_inb i r) i 0 r (off1_eq i r) z; ohAt_emb i e v 0 r z _ q.1 q.2.1 q.2.2
  | 1, z => exact have q := ohRect_emb (k0_off2_inb i r) i 1 r (off2_eq i r) z; ohAt_emb i e v 1 r z _ q.1 q.2.1 q.2.2
  | 2, z => exact have q := ohRect_emb (k0_off3_inb i r) i 2 r (off3_eq i r) z; ohAt_emb i e v 2 r z _ q.1 q.2.1 q.2.2
  | 3, z => exact have q := ohRect_emb (k0_off4_inb i r) i 3 r (off4_eq i r) z; ohAt_emb i e v 3 r z _ q.1 q.2.1 q.2.2

/-- The buffer of weighted indicators after the point's stores: the point's own in its block of 1024 columns, the
    others as they were. -/
theorem read_oh {κ : Kind} {sp : Space} (w : View sig κ sp S4x256x5120 .bf16) (f : w.ty.Contents (Elt F)) (i : grid0.Coords)
    (e : Fin 4 → FVec F S256x4 .bf16) (v : FVec F S256x1024 .bf16) :
    w.read (Elt F) (w.writes (Elt F) f (ohL i e v))
      = fun y => if (y 2).val / 1024 = (i 0).val % 5 then ohAt e v y else w.read (Elt F) f y := by
  funext y
  by_cases h : (y 2).val / 1024 = (i 0).val % 5
  · rw [if_pos h]
    obtain ⟨h0, hh⟩ : ∃ h0 : Fin 4, y 0 = h0 := ⟨_, rfl⟩
    refine View.read_writes_apply_of_pieces w f (ohAt e v) _ ?_ y ⟨ohPiece i e v h0 (subOf (y 2).val), ohPiece_mem .., ?_⟩
    · intro p hp z
      obtain ⟨a, r, rfl⟩ := of_mem_ohL i e v p hp
      exact ohPiece_val i e v a r z
    · rw [ohPiece_set, ohRect_mem]; simp only [rowOf, subOf]; exact ⟨hh, by omega, by omega⟩
  · rw [if_neg h]
    refine View.read_writes_apply_of_forall_not_mem w f y _ fun p hp hm => h ?_
    obtain ⟨a, r, rfl⟩ := of_mem_ohL i e v p hp
    rw [ohPiece_set, ohRect_mem] at hm; simp only [rowOf] at hm; have := r.isLt; omega

/-! ## What the loads read -/

/-- The `r`-th 256 rows of a block. -/
def xOf (X : Vec F S1024x256 .bf16) (r : Fin 4) : Vec F S256x256 .bf16 := fun z => X ((xRect r).toLoadRect.idx z)
/-- The `h`-th head's stretch of the gate row. -/
def gOf (G : Vec F S8x2048 .f32) (h : Fin 4) : Vec F S1x512 .f32 := fun z => G ((gRect h).toLoadRect.idx z)
/-- The exponentials of a block's gates, sub-block by sub-block. -/
def eOf (X : Vec F S1024x256 .bf16) (W : Vec F S256x4096 .bf16) (G : Vec F S8x2048 .f32) (r : Fin 4) : FVec F S256x4 .bf16 :=
  eBlk (xOf X r) W (gOf G)

section
variable (arg1 : Memref sig .tc .vmem S1024x256 .bf16) (harg1 : arg1.IsWhole) (arg2 : Memref sig .tc .vmem S1x1x1024 .i32) (harg2 : arg2.IsWhole) (arg3 : Memref sig .tc .vmem S256x4096 .bf16) (harg3 : arg3.IsWhole) (arg4 : Memref sig .tc .vmem S8x2048 .f32) (harg4 : arg4.IsWhole) (arg5 : Memref sig .tc .vmem S2048x256 .bf16) (harg5 : arg5.IsWhole) (arg7 : Memref sig .tc .vmem S5120x2048 .bf16) (harg7 : arg7.IsWhole) (arg8 : Memref sig .tc .vmem S4x256x5120 .bf16) (harg8 : arg8.IsWhole) (arg9 : Memref sig .tc .vmem S256x4 .f32) (harg9 : arg9.IsWhole) (arg10 : Memref sig .tc .vmem S256x2048 .f32) (harg10 : arg10.IsWhole)
    (i : grid0.Coords)
    (x0 : Vec F S1024x256 .bf16) (x1 : Vec F S1x1x1024 .i32) (x2 : Vec F S256x4096 .bf16) (x3 : Vec F S8x2048 .f32) (x4 : Vec F S2048x256 .bf16)
    (xs0 : Vec F S5120x2048 .bf16) (xs1 : Vec F S4x256x5120 .bf16) (xs2 : Vec F S256x4 .f32) (xs3 : Vec F S256x2048 .f32)

theorem ldX_eq : ldX arg1 harg1 x0 = xOf x0 := by
  funext r z; exact harg1.readAt_unread x0 (xRect r).toLoadRect z
theorem ldG_eq : ldG arg4 harg4 x3 = gOf x3 := by
  funext r z; exact harg4.readAt_unread x3 (gRect r).toLoadRect z
theorem ldW_eq : ldW arg3 harg3 x2 = x2 :=
  (View.readAt_full _ _ _).trans (harg3.read_unread x2)
theorem ldB_eq : ldB arg2 harg2 x1 = x1 :=
  (View.readAt_full _ _ _).trans (harg2.read_unread x1)
theorem ldW2_eq : ldW2 arg5 harg5 x4 = x4 :=
  (View.readAt_full _ _ _).trans (harg5.read_unread x4)
theorem denNow_eq : denNow arg9 harg9 xs2 = xs2 :=
  (View.readAt_full _ _ _).trans (harg9.read_unread xs2)
theorem sumNow_eq : sumNow arg10 harg10 xs3 = xs3 := harg10.read_unread xs3
theorem ldE_eq : ldE arg1 harg1 arg3 harg3 arg4 harg4 x0 x2 x3 = eOf x0 x2 x3 := by
  funext r; unfold ldE eOf; rw [ldX_eq, ldG_eq, ldW_eq]
theorem ldV_eq : ldV arg2 harg2 x1 = k0_pay17 x1 := by unfold ldV; rw [ldB_eq]

/-- The hidden rows held once the point's own are stored, -/
theorem wallNow_eq : wallNow i arg1 harg1 arg3 harg3 arg7 harg7 x0 x2 xs0
    = fun y => if (y 0).val / 1024 = (i 0).val % 5 then uAt (xOf x0) x2 y else xs0 y := by
  unfold wallNow; rw [read_wall, ldX_eq, ldW_eq, harg7.read_unread]
/-- and the weighted indicators. -/
theorem ohNow_eq : ohNow i arg1 harg1 arg2 harg2 arg3 harg3 arg4 harg4 arg8 harg8 x0 x1 x2 x3 xs1
    = fun y => if (y 2).val / 1024 = (i 0).val % 5 then ohAt (eOf x0 x2 x3) (k0_pay17 x1) y else xs1 y := by
  unfold ohNow; rw [read_oh, ldE_eq, ldV_eq, harg8.read_unread]

/-- A load of the denominators after a store of them reads what was stored. -/
theorem readCov_denCons (e : Fin 4 → FVec F S256x4 .bf16) (v : FVec F S256x1024 .bf16) (r : Fin 4) (d : Vec F S256x4 .f32)
    (L : List (View.Piece (Elt F) S256x4 .f32)) :
    arg9.view.readCov (denCons e v r d L) denRect.toLoadRect = denStep (e r) (indBlk r v) d :=
  View.readCov_full _ _ _ _ _

theorem readCov_denL (d : Vec F S256x4 .f32) (L : List (View.Piece (Elt F) S256x4 .f32)) :
    arg9.view.readCov (denL arg1 harg1 arg2 harg2 arg3 harg3 arg4 harg4 arg9 x0 x1 x2 x3 d L) denRect.toLoadRect
      = denPt (eOf x0 x2 x3) (k0_pay17 x1) d := by
  unfold denL
  simp only [readCov_denCons, ldE_eq, ldV_eq]
  rfl

/-- The denominators held after the point. -/
theorem read_denL (f : arg9.view.ty.Contents (Elt F)) (d : Vec F S256x4 .f32) (L : List (View.Piece (Elt F) S256x4 .f32)) :
    arg9.view.read (Elt F) (arg9.view.writes (Elt F) f (denL arg1 harg1 arg2 harg2 arg3 harg3 arg4 harg4 arg9 x0 x1 x2 x3 d L))
      = denPt (eOf x0 x2 x3) (k0_pay17 x1) d := by
  unfold denL
  simp only [readCov_denCons, ldE_eq, ldV_eq]
  exact View.read_writes_full _ _ _ _ _

theorem readCov_zero : arg9.view.readCov [(⟨denRect, k0_pay16⟩ : View.Piece (Elt F) S256x4 .f32)] denRect.toLoadRect = k0_pay16 :=
  View.readCov_full _ _ _ _ _

end

/-! ## The sums -/

/-- Four blocks of 512 columns side by side. -/
def joinCols (s : Fin 4 → Vec F S256x512 .f32) : Vec F S256x2048 .f32 :=
  fun y => s ⟨(y 1).val / 512, by have : (y 1).val < 2048 := (y 1).isLt; omega⟩ (ix2 (y 0) ⟨(y 1).val % 512, by omega⟩)

theorem joinCols_col (s : Fin 4 → Vec F S256x512 .f32) (h : Fin 4) (z : S256x512.Idx) :
    joinCols s ((colRect h).toLoadRect.idx z) = s h z := by
  have h0 : (colRect h).toLoadRect.idx z 0 = z 0 := by
    apply Fin.ext; show 0 + 1 * (z 0).val = _; omega
  have h1 : ((colRect h).toLoadRect.idx z 1).val = 512 * h.val + (z 1).val := by
    show 512 * h.val + 1 * (z 1).val = _; omega
  have hz : (z 1).val < 512 := (z 1).isLt
  have hh := h.isLt
  unfold joinCols
  have e1 : (⟨((colRect h).toLoadRect.idx z 1).val / 512, by omega⟩ : Fin 4) = h := by apply Fin.ext; simp only [h1]; omega
  have e2 : (⟨((colRect h).toLoadRect.idx z 1).val % 512, by omega⟩ : Fin 512) = z 1 := by apply Fin.ext; simp only [h1]; omega
  rw [e1, e2, h0]
  congr 1
  exact ix2_eta (n0 := 256) (n1 := 512) z

theorem of_mem_sumL (s : Fin 4 → Vec F S256x512 .f32) (p : View.Piece (Elt F) S256x2048 .f32) (hp : p ∈ sumL s) :
    ∃ h, p = ⟨colRect h, s h⟩ := by
  simp only [sumL, List.mem_cons, List.not_mem_nil, or_false] at hp
  rcases hp with h | h | h | h
  exacts [⟨3, h⟩, ⟨2, h⟩, ⟨1, h⟩, ⟨0, h⟩]

theorem mem_sumL (s : Fin 4 → Vec F S256x512 .f32) (h : Fin 4) : (⟨colRect h, s h⟩ : View.Piece (Elt F) S256x2048 .f32) ∈ sumL s := by
  match h with
  | 0 => simp [sumL]
  | 1 => simp [sumL]
  | 2 => simp [sumL]
  | 3 => simp [sumL]

/-- The buffer of sums after the four stores. -/
theorem read_sum {κ : Kind} {sp : Space} (v : View sig κ sp S256x2048 .f32) (f : v.ty.Contents (Elt F)) (s : Fin 4 → Vec F S256x512 .f32) :
    v.read (Elt F) (v.writes (Elt F) f (sumL s)) = joinCols s := by
  funext y
  have hy : (y 1).val < 2048 := (y 1).isLt
  refine View.read_writes_apply_of_pieces v f (joinCols s) _ ?_ y
    ⟨⟨colRect ⟨(y 1).val / 512, by omega⟩, s ⟨(y 1).val / 512, by omega⟩⟩, mem_sumL s _, ?_⟩
  · intro p hp z
    obtain ⟨h, rfl⟩ := of_mem_sumL s p hp
    exact (joinCols_col s h z).symm
  · show y ∈ (colRect _).set
    unfold colRect
    rw [Rect.mem_set_unit, Fin.forall_fin_two]
    refine ⟨⟨Nat.zero_le _, ?_⟩, ?_, ?_⟩
    · show (y 0).val < 0 + 256
      have : (y 0).val < 256 := (y 0).isLt
      omega
    · show 512 * ((y 1).val / 512) ≤ _
      omega
    · show _ < 512 * ((y 1).val / 512) + 512
      omega

theorem readCov_sum {κ : Kind} {sp : Space} (v : View sig κ sp S256x2048 .f32) (s : Fin 4 → Vec F S256x512 .f32) (h : Fin 4) :
    v.readCov (sumL s) (colRect h).toLoadRect = s h := by
  funext z
  show v.read (Elt F) (v.writes (Elt F) v.junk (sumL s)) ((colRect h).toLoadRect.idx z) = _
  rw [read_sum]
  exact joinCols_col s h z

end Cert.KernelIdeal.Pool

end
-- ==== Proof.Step.lean ====
/- The kernel body at one grid point: from what the windows and the four scratch buffers hold to what they hold
   after it, stated over contents alone. -/
module

public import proofs.«01_k».proof.Proof.Reads

@[expose] public section

set_option maxRecDepth 65536

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## The contents after a point -/

/-- The hidden rows after point `i`: the point's own stretch is new. -/
def nextWall (i : grid0.Coords) (X : Vec F S1024x256 .bf16) (W : Vec F S256x4096 .bf16) (s : Vec F S5120x2048 .bf16) : Vec F S5120x2048 .bf16 :=
  fun y => if (y 0).val / 1024 = (i 0).val % 5 then uAt (xOf X) W y else s y
/-- The weighted indicators after point `i`. -/
def nextOh (i : grid0.Coords) (X : Vec F S1024x256 .bf16) (B : Vec F S1x1x1024 .i32) (W : Vec F S256x4096 .bf16) (G : Vec F S8x2048 .f32)
    (s : Vec F S4x256x5120 .bf16) : Vec F S4x256x5120 .bf16 :=
  fun y => if (y 2).val / 1024 = (i 0).val % 5 then ohAt (eOf X W G) (k0_pay17 B) y else s y
/-- The denominators after a point, from those before it. -/
def nextDen (X : Vec F S1024x256 .bf16) (B : Vec F S1x1x1024 .i32) (W : Vec F S256x4096 .bf16) (G : Vec F S8x2048 .f32) (d : Vec F S256x4 .f32) :
    Vec F S256x4 .f32 := denPt (eOf X W G) (k0_pay17 B) d
/-- What the first point starts the denominators from, and what a later one does. -/
def denIn (k : Kind4) (d : Vec F S256x4 .f32) : Vec F S256x4 .f32 :=
  match k with
  | .first => k0_pay16
  | _ => d
/-- The sums after a point, from the two long buffers after it. -/
def nextSum (k : Kind4) (oh : Vec F S4x256x5120 .bf16) (wall : Vec F S5120x2048 .bf16) (s : Vec F S256x2048 .f32) : Vec F S256x2048 .f32 :=
  match k with
  | .half => joinCols (halfSum oh wall)
  | .last => joinCols (fullSum oh wall s)
  | _ => s

variable (k : Kind4) (c : Dev nD) (i : grid0.Coords)
    (arg1 : Memref sig .tc .vmem S1024x256 .bf16) (harg1 : arg1.IsWhole) (arg2 : Memref sig .tc .vmem S1x1x1024 .i32) (harg2 : arg2.IsWhole) (arg3 : Memref sig .tc .vmem S256x4096 .bf16) (harg3 : arg3.IsWhole) (arg4 : Memref sig .tc .vmem S8x2048 .f32) (harg4 : arg4.IsWhole) (arg5 : Memref sig .tc .vmem S2048x256 .bf16) (harg5 : arg5.IsWhole) (arg6 : Memref sig .tc .vmem S256x256 .f32) (harg6 : arg6.IsWhole) (arg7 : Memref sig .tc .vmem S5120x2048 .bf16) (harg7 : arg7.IsWhole) (arg8 : Memref sig .tc .vmem S4x256x5120 .bf16) (harg8 : arg8.IsWhole) (arg9 : Memref sig .tc .vmem S256x4 .f32) (harg9 : arg9.IsWhole) (arg10 : Memref sig .tc .vmem S256x2048 .f32) (harg10 : arg10.IsWhole)
    (hk : k.At i)
    (x0 : Vec F S1024x256 .bf16) (x1 : Vec F S1x1x1024 .i32) (x2 : Vec F S256x4096 .bf16) (x3 : Vec F S8x2048 .f32) (x4 : Vec F S2048x256 .bf16)
    (xs0 : Vec F S5120x2048 .bf16) (xs1 : Vec F S4x256x5120 .bf16) (xs2 : Vec F S256x4 .f32) (xs3 : Vec F S256x2048 .f32)

theorem after_wall : arg7.view.read (Elt F) (arg7.view.writes (Elt F) (harg7.unread xs0) (run k c i arg1 harg1 arg2 harg2 arg3 harg3 arg4 harg4 arg5 harg5 arg6 harg6 arg7 harg7 arg8 harg8 arg9 harg9 arg10 harg10 hk x0 x1 x2 x3 x4 xs0 xs1 xs2 xs3).2.1)
    = nextWall i x0 x2 xs0 := by
  rw [run_wall]
  exact wallNow_eq arg1 harg1 arg3 harg3 arg7 harg7 i x0 x2 xs0

theorem after_oh : arg8.view.read (Elt F) (arg8.view.writes (Elt F) (harg8.unread xs1) (run k c i arg1 harg1 arg2 harg2 arg3 harg3 arg4 harg4 arg5 harg5 arg6 harg6 arg7 harg7 arg8 harg8 arg9 harg9 arg10 harg10 hk x0 x1 x2 x3 x4 xs0 xs1 xs2 xs3).2.2.1)
    = nextOh i x0 x1 x2 x3 xs1 := by
  rw [run_oh]
  exact ohNow_eq arg1 harg1 arg2 harg2 arg3 harg3 arg4 harg4 arg8 harg8 i x0 x1 x2 x3 xs1

theorem after_den : arg9.view.read (Elt F) (arg9.view.writes (Elt F) (harg9.unread xs2) (run k c i arg1 harg1 arg2 harg2 arg3 harg3 arg4 harg4 arg5 harg5 arg6 harg6 arg7 harg7 arg8 harg8 arg9 harg9 arg10 harg10 hk x0 x1 x2 x3 x4 xs0 xs1 xs2 xs3).2.2.2.1)
    = nextDen x0 x1 x2 x3 (denIn k xs2) := by
  by_cases h : k = .first
  · subst h
    rw [run_den_first]
    refine (read_denL arg1 harg1 arg2 harg2 arg3 harg3 arg4 harg4 arg9 x0 x1 x2 x3 _ _ _).trans ?_
    exact congrArg (denPt (eOf x0 x2 x3) (k0_pay17 x1)) (readCov_zero arg9)
  · rw [run_den k c i arg1 harg1 arg2 harg2 arg3 harg3 arg4 harg4 arg5 harg5 arg6 harg6 arg7 harg7 arg8 harg8 arg9 harg9 arg10 harg10 hk x0 x1 x2 x3 x4 xs0 xs1 xs2 xs3 h, read_denL, denNow_eq]
    cases k
    · exact absurd rfl h
    all_goals rfl

theorem after_sum : arg10.view.read (Elt F) (arg10.view.writes (Elt F) (harg10.unread xs3) (run k c i arg1 harg1 arg2 harg2 arg3 harg3 arg4 harg4 arg5 harg5 arg6 harg6 arg7 harg7 arg8 harg8 arg9 harg9 arg10 harg10 hk x0 x1 x2 x3 x4 xs0 xs1 xs2 xs3).2.2.2.2.1)
    = nextSum k (nextOh i x0 x1 x2 x3 xs1) (nextWall i x0 x2 xs0) xs3 := by
  cases k
  · rw [run_sum_other _ c i arg1 harg1 arg2 harg2 arg3 harg3 arg4 harg4 arg5 harg5 arg6 harg6 arg7 harg7 arg8 harg8 arg9 harg9 arg10 harg10 hk x0 x1 x2 x3 x4 xs0 xs1 xs2 xs3 (by intro h; cases h) (by intro h; cases h)]; exact harg10.read_unread xs3
  · rw [run_sum_other _ c i arg1 harg1 arg2 harg2 arg3 harg3 arg4 harg4 arg5 harg5 arg6 harg6 arg7 harg7 arg8 harg8 arg9 harg9 arg10 harg10 hk x0 x1 x2 x3 x4 xs0 xs1 xs2 xs3 (by intro h; cases h) (by intro h; cases h)]; exact harg10.read_unread xs3
  · rw [run_sum_half, read_sum, ohNow_eq, wallNow_eq]; rfl
  · rw [run_sum_last, read_sum, ohNow_eq, wallNow_eq, sumNow_eq]; rfl

theorem after_out (hk : Kind4.last.At i) (f : arg6.view.ty.Contents (Elt F)) : arg6.view.read (Elt F) (arg6.view.writes (Elt F) f (run .last c i arg1 harg1 arg2 harg2 arg3 harg3 arg4 harg4 arg5 harg5 arg6 harg6 arg7 harg7 arg8 harg8 arg9 harg9 arg10 harg10 hk x0 x1 x2 x3 x4 xs0 xs1 xs2 xs3).1)
    = finOut (nextDen x0 x1 x2 x3 xs2) (fullSum (nextOh i x0 x1 x2 x3 xs1) (nextWall i x0 x2 xs0) xs3) x4 := by
  rw [run_out_last, readCov_denL, ldW2_eq, denNow_eq, ohNow_eq, wallNow_eq, sumNow_eq]
  simp only [readCov_sum]
  exact View.read_writes_full _ _ _ _ _

include hk in
/-- The body at a point: the inputs are left, the output block is left at something, and is the finished block at the
    last point, and the four scratch buffers hold the next contents. -/
theorem step (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ d, ⌜k = .last → d = finOut (nextDen x0 x1 x2 x3 xs2) (fullSum (nextOh i x0 x1 x2 x3 xs1) (nextWall i x0 x2 xs0) xs3) x4⌝ ∗ owns (c : Thread nD τ) arg6 fullShare d)
                ∗ owns (c : Thread nD τ) arg7 fullShare (nextWall i x0 x2 xs0)
                ∗ owns (c : Thread nD τ) arg8 fullShare (nextOh i x0 x1 x2 x3 xs1)
                ∗ owns (c : Thread nD τ) arg9 fullShare (nextDen x0 x1 x2 x3 (denIn k xs2))
                ∗ owns (c : Thread nD τ) arg10 fullShare (nextSum k (nextOh i x0 x1 x2 x3 xs1) (nextWall i x0 x2 xs0) xs3)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K := by
  iintro ⟨H0, H1, H2, H3, H4, H5, HS0, HS1, HS2, HS3, Hk⟩
  iapply ((run k c i arg1 harg1 arg2 harg2 arg3 harg3 arg4 harg4 arg5 harg5 arg6 harg6 arg7 harg7 arg8 harg8 arg9 harg9 arg10 harg10 hk x0 x1 x2 x3 x4 xs0 xs1 xs2 xs3).2.2.2.2.2 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, ⟨%f, H5⟩, HS0, HS1, HS2, HS3⟩
  iapply Hk
  isplitl [H0]; · iexact H0
  isplitl [H1]; · iexact H1
  isplitl [H2]; · iexact H2
  isplitl [H3]; · iexact H3
  isplitl [H4]; · iexact H4
  isplitl [H5]
  · iexists (arg6.view.read (Elt F) (arg6.view.writes (Elt F) f (run k c i arg1 harg1 arg2 harg2 arg3 harg3 arg4 harg4 arg5 harg5 arg6 harg6 arg7 harg7 arg8 harg8 arg9 harg9 arg10 harg10 hk x0 x1 x2 x3 x4 xs0 xs1 xs2 xs3).1))
    isplitr
    · ipureintro
      intro h; subst h
      exact after_out c i arg1 harg1 arg2 harg2 arg3 harg3 arg4 harg4 arg5 harg5 arg6 harg6 arg7 harg7 arg8 harg8 arg9 harg9 arg10 harg10 x0 x1 x2 x3 x4 xs0 xs1 xs2 xs3 hk f
    · unfold owns; iexists _; isplitr; swap; iexact H5; ipureintro; rfl
  isplitl [HS0]
  · unfold owns; iexists _; isplitr; swap; iexact HS0; ipureintro
    exact after_wall k c i arg1 harg1 arg2 harg2 arg3 harg3 arg4 harg4 arg5 harg5 arg6 harg6 arg7 harg7 arg8 harg8 arg9 harg9 arg10 harg10 hk x0 x1 x2 x3 x4 xs0 xs1 xs2 xs3
  isplitl [HS1]
  · unfold owns; iexists _; isplitr; swap; iexact HS1; ipureintro
    exact after_oh k c i arg1 harg1 arg2 harg2 arg3 harg3 arg4 harg4 arg5 harg5 arg6 harg6 arg7 harg7 arg8 harg8 arg9 harg9 arg10 harg10 hk x0 x1 x2 x3 x4 xs0 xs1 xs2 xs3
  isplitl [HS2]
  · unfold owns; iexists _; isplitr; swap; iexact HS2; ipureintro
    exact after_den k c i arg1 harg1 arg2 harg2 arg3 harg3 arg4 harg4 arg5 harg5 arg6 harg6 arg7 harg7 arg8 harg8 arg9 harg9 arg10 harg10 hk x0 x1 x2 x3 x4 xs0 xs1 xs2 xs3
  · unfold owns; iexists _; isplitr; swap; iexact HS3; ipureintro
    exact after_sum k c i arg1 harg1 arg2 harg2 arg3 harg3 arg4 harg4 arg5 harg5 arg6 harg6 arg7 harg7 arg8 harg8 arg9 harg9 arg10 harg10 hk x0 x1 x2 x3 x4 xs0 xs1 xs2 xs3

end Cert.KernelIdeal.Pool

end
-- ==== Proof.Inv.lean ====
/- What the scratch buffers hold between the grid points, as a fact about contents, and how one point carries it on. -/
module

public import proofs.«01_k».proof.Proof.Step

@[expose] public section

set_option maxRecDepth 65536

noncomputable section

namespace Cert.KernelIdeal.Pool

open Idealize.ShloMosaic Idealize.ShloMosaic.TcCoe
open Cert.KernelIdeal.Gen

variable {F : FTy → Type} [FloatOps F]

/-- The rows of one half (`q` is 0 or 1), each row from the block that it lies in. -/
def halfWall (U : ℕ → Vec F S5120x2048 .bf16) (q : ℕ) : Vec F S5120x2048 .bf16 := fun y => U (5 * q + (y 0).val / 1024) y
/-- The weighted indicators of one half. -/
def halfOh (O : ℕ → Vec F S4x256x5120 .bf16) (q : ℕ) : Vec F S4x256x5120 .bf16 := fun y => O (5 * q + (y 2).val / 1024) y

/-- Before point `t`: the last five blocks' rows and indicators are held, the denominators are those of the blocks so
    far, and after the first half the sums are the first half's. -/
structure Inv (U : ℕ → Vec F S5120x2048 .bf16) (O : ℕ → Vec F S4x256x5120 .bf16) (D : ℕ → Vec F S256x4 .f32) (t : ℕ)
    (xs0 : Vec F S5120x2048 .bf16) (xs1 : Vec F S4x256x5120 .bf16) (xs2 : Vec F S256x4 .f32) (xs3 : Vec F S256x2048 .f32) : Prop where
  wall : ∀ b, b < t → t ≤ b + 5 → ∀ y, (y 0).val / 1024 = b % 5 → xs0 y = U b y
  oh : ∀ b, b < t → t ≤ b + 5 → ∀ y, (y 2).val / 1024 = b % 5 → xs1 y = O b y
  den : 0 < t → xs2 = D t
  sum : 5 ≤ t → xs3 = joinCols (halfSum (halfOh O 0) (halfWall U 0))

variable {U : ℕ → Vec F S5120x2048 .bf16} {O : ℕ → Vec F S4x256x5120 .bf16} {D : ℕ → Vec F S256x4 .f32} {t : ℕ}
    {xs0 : Vec F S5120x2048 .bf16} {xs1 : Vec F S4x256x5120 .bf16} {xs2 : Vec F S256x4 .f32} {xs3 : Vec F S256x2048 .f32}

/-- Nothing is said before the first point. -/
theorem Inv.zero : Inv U O D 0 xs0 xs1 xs2 xs3 :=
  ⟨fun _ h => absurd h (Nat.not_lt_zero _), fun _ h => absurd h (Nat.not_lt_zero _), fun h => absurd h (lt_irrefl _), fun h => absurd h (by omega)⟩

variable {i : grid0.Coords} (hi : (i 0).val = t)
    {X : Vec F S1024x256 .bf16} {B : Vec F S1x1x1024 .i32} {W : Vec F S256x4096 .bf16} {G : Vec F S8x2048 .f32}
    (hU : U t = uAt (xOf X) W) (hO : O t = ohAt (eOf X W G) (k0_pay17 B))

include hi hU in
/-- At the last point of a half the buffer of rows holds the whole half. -/
theorem Inv.full_wall (H : Inv U O D t xs0 xs1 xs2 xs3) (q : ℕ) (hq : t = 5 * q + 4) : nextWall i X W xs0 = halfWall U q := by
  funext y
  have hy : (y 0).val < 5120 := (y 0).isLt
  unfold nextWall halfWall
  rw [hi]
  by_cases h : (y 0).val / 1024 = t % 5
  · rw [if_pos h, ← hU, show 5 * q + (y 0).val / 1024 = t by omega]
  · rw [if_neg h]
    exact H.wall _ (by omega) (by omega) y (by omega)

include hi hO in
/-- And the buffer of indicators too. -/
theorem Inv.full_oh (H : Inv U O D t xs0 xs1 xs2 xs3) (q : ℕ) (hq : t = 5 * q + 4) : nextOh i X B W G xs1 = halfOh O q := by
  funext y
  have hy : (y 2).val < 5120 := (y 2).isLt
  unfold nextOh halfOh
  rw [hi]
  by_cases h : (y 2).val / 1024 = t % 5
  · rw [if_pos h, ← hO, show 5 * q + (y 2).val / 1024 = t by omega]
  · rw [if_neg h]
    exact H.oh _ (by omega) (by omega) y (by omega)

include hi hU hO in
/-- One point carries the fact on. -/
theorem Inv.next (H : Inv U O D t xs0 xs1 xs2 xs3) {k : Kind4} (hk1 : k = .first ↔ t = 0) (hk2 : k = .half ↔ t = 4) (hk3 : k = .last ↔ t = 9)
    (ht : t < 10) (hD0 : D 0 = k0_pay16) (hD : D (t + 1) = nextDen X B W G (D t)) :
    (t = 9 ∨ Inv U O D (t + 1) (nextWall i X W xs0) (nextOh i X B W G xs1) (nextDen X B W G (denIn k xs2))
      (nextSum k (nextOh i X B W G xs1) (nextWall i X W xs0) xs3)) := by
  by_cases h9 : t = 9
  · exact .inl h9
  refine .inr ⟨fun b hb hb5 y hy => ?_, fun b hb hb5 y hy => ?_, fun _ => ?_, fun h5 => ?_⟩
  · unfold nextWall; rw [hi]
    by_cases h : (y 0).val / 1024 = t % 5
    · rw [if_pos h, ← hU, show b = t by omega]
    · rw [if_neg h]; exact H.wall b (by omega) (by omega) y hy
  · unfold nextOh; rw [hi]
    by_cases h : (y 2).val / 1024 = t % 5
    · rw [if_pos h, ← hO, show b = t by omega]
    · rw [if_neg h]; exact H.oh b (by omega) (by omega) y hy
  · rw [hD]
    congr 1
    by_cases h0 : t = 0
    · rw [hk1.mpr h0, h0, hD0]; rfl
    · have hne : k ≠ .first := fun h => h0 (hk1.mp h)
      rw [← H.den (by omega)]
      cases k
      · exact absurd rfl hne
      all_goals rfl
  · by_cases h4 : t = 4
    · rw [hk2.mpr h4, H.full_wall hi hU 0 (by omega), H.full_oh hi hO 0 (by omega)]; rfl
    · have hne : k ≠ .half := fun h => h4 (hk2.mp h)
      have hne' : k ≠ .last := fun h => h9 (hk3.mp h)
      rw [← H.sum (by omega)]
      cases k
      · rfl
      · rfl
      · exact absurd rfl hne
      · exact absurd rfl hne'

end Cert.KernelIdeal.Pool

end
-- ==== Proof.Launch.lean ====
/- The launch: the proof data of the pipeline, the body at every grid point, the run, and what it leaves. -/
module

public import proofs.«01_k».proof.Proof.Inv
public import Idealize.ShloMosaic.Lib.Claim

@[expose] public section

set_option maxRecDepth 65536

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the launch goes through -/

/-- The grid point of a number. -/
def pt (n : ℕ) : Fin cfg0.N := ⟨n % 10, by rw [show cfg0.N = 10 from N_0]; omega⟩

theorem pt_val (t : Fin cfg0.N) : pt t.val = t := by
  have ht : t.val < 10 := Nat.lt_of_lt_of_eq t.isLt N_0
  apply Fin.ext; show t.val % 10 = t.val; omega

/-- Block `n` of the rows, of the segment numbers, of the first-layer weights, of the gate row, of the second-layer weights. -/
def bX (c : Dev nD) (n : ℕ) : Vec F S1024x256 .bf16 := iblk m c 0 (pt n)
def bB (c : Dev nD) (n : ℕ) : Vec F S1x1x1024 .i32 := iblk m c 1 (pt n)
def bW (c : Dev nD) (n : ℕ) : Vec F S256x4096 .bf16 := iblk m c 2 (pt n)
def bG (c : Dev nD) (n : ℕ) : Vec F S8x2048 .f32 := iblk m c 3 (pt n)
def bW2 (c : Dev nD) (n : ℕ) : Vec F S2048x256 .bf16 := iblk m c 4 (pt n)

/-- The hidden rows of block `n`, in place. -/
def bU (c : Dev nD) (n : ℕ) : Vec F S5120x2048 .bf16 := uAt (xOf (bX m c n)) (bW m c n)
/-- The weighted indicators of block `n`, in place. -/
def bO (c : Dev nD) (n : ℕ) : Vec F S4x256x5120 .bf16 := ohAt (eOf (bX m c n) (bW m c n) (bG m c n)) (k0_pay17 (bB m c n))
/-- The denominators of the first `n` blocks. -/
def bD (c : Dev nD) : ℕ → Vec F S256x4 .f32
  | 0 => k0_pay16
  | n + 1 => nextDen (bX m c n) (bB m c n) (bW m c n) (bG m c n) (bD c n)
/-- The sums of both halves. -/
def bS (c : Dev nD) : Fin 4 → Vec F S256x512 .f32 :=
  fullSum (halfOh (bO m c) 1) (halfWall (bU m c) 1) (joinCols (halfSum (halfOh (bO m c) 0) (halfWall (bU m c) 0)))
/-- The finished output. -/
def bOut (c : Dev nD) : Vec F S256x256 .f32 := finOut (bD m c 10) (bS m c) (bW2 m c 9)

/-- The fact held before point `n`. -/
abbrev InvAt (c : Dev nD) (n : ℕ) : Vec F S5120x2048 .bf16 → Vec F S4x256x5120 .bf16 → Vec F S256x4 .f32 → Vec F S256x2048 .f32 → Prop :=
  fun a b d e => n = 10 ∨ Inv (bU m c) (bO m c) (bD m c) n a b d e

/-- The invariant before point `n`: the four scratch buffers at contents of which the fact holds, and the generator register. -/
def PhiS (c : Dev nD) (n : ℕ) : sProp 𝕄 :=
  iprop((∃ a b d e, ⌜InvAt m c n a b d e⌝ ∗ owns (c : Thread nD τ) scWall fullShare a ∗ owns (c : Thread nD τ) scOh fullShare b
      ∗ owns (c : Thread nD τ) scDen fullShare d ∗ owns (c : Thread nD τ) scSum fullShare e) ∗ (∃ r, prngReg c r))

theorem Phi_in (c : Dev nD) : (Pipeline.ΦA spec0 c : sProp 𝕄) ⊢ PhiS m c 0 := by
  rw [PhiA_eq]; unfold PhiS
  iintro ⟨⟨⟨%a, HA⟩, ⟨%b, HB⟩, ⟨%d, HD⟩, ⟨%e, HE⟩⟩, Hg⟩
  isplitl [HA HB HD HE]
  · iexists a; iexists b; iexists d; iexists e
    isplitr
    · ipureintro; exact .inr Inv.zero
    isplitl [HA]; · iexact HA
    isplitl [HB]; · iexact HB
    isplitl [HD]; · iexact HD
    iexact HE
  iexact Hg

theorem Phi_out (c : Dev nD) (n : ℕ) : PhiS m c n ⊢ (Pipeline.ΦA spec0 c : sProp 𝕄) := by
  rw [PhiA_eq]; unfold PhiS
  iintro ⟨⟨%a, %b, %d, %e, -, HA, HB, HD, HE⟩, Hg⟩
  isplitl [HA HB HD HE]
  · isplitl [HA]; · iexists a; iexact HA
    isplitl [HB]; · iexists b; iexact HB
    isplitl [HD]; · iexists d; iexact HD
    iexists e; iexact HE
  iexact Hg

/-! ## The proof data -/

/-- The pipeline's proof data: the inputs are left in place, the output is the finished block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => bOut m c
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = bOut m c := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The output window is left alone at every point but the last. -/
theorem idle_5 (t : Fin cfg0.N) (h : t.val ≠ 9) : cfg0.idle 5 (cfg0.grid.coords t) = true := by
  have : ¬ k0_cond3 (grid0.coords t) = 1#1 := fun hl => h ((isLast_iff t).mp hl)
  show (!(k0_cond3 (grid0.coords t) == 1#1)) = true
  simpa using this
theorem live_5 (t : Fin cfg0.N) (h : t.val = 9) : cfg0.idle 5 (cfg0.grid.coords t) = false := by
  have : k0_cond3 (grid0.coords t) = 1#1 := (isLast_iff t).mpr h
  show (!(k0_cond3 (grid0.coords t) == 1#1)) = false
  simpa using this
theorem noflush_5 (t : Fin cfg0.N) (h : t.val ≠ 9) : (cfg0.win 5).flush t = false := by
  have ht : t.val < 10 := Nat.lt_of_lt_of_eq t.isLt N_0
  by_contra hf
  have := (flush0_5 t).mp (by simpa using hf)
  omega

/-- So its staging buffer is found as it was at the start. -/
theorem before0_5 (c : Dev nD) (d) : ∀ (n : ℕ) (hn : n < cfg0.N), (dats m 0 c).before 5 ⟨n, hn⟩ d = d
  | 0, hn => (dats m 0 c).before_out_reset 5 rfl ⟨0, hn⟩ (.inl rfl) d
  | n + 1, hn => by
    have hn' : n + 1 < 10 := Nat.lt_of_lt_of_eq hn N_0
    rw [(dats m 0 c).before_of_pos 5 ⟨n + 1, hn⟩ (Nat.succ_ne_zero n) ((cfg0.win 5).fetch_out rfl _)]
    rw [noflush_5 _ (by show n + 1 - 1 ≠ 9; omega), if_neg Bool.false_ne_true]
    unfold Dat.left
    rw [idle_5 _ (by show n + 1 - 1 ≠ 9; omega)]
    exact before0_5 c d n _

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- Which of the four kinds a point is of. -/
def kindOf (n : ℕ) : Kind4 := if n = 0 then .first else if n = 4 then .half else if n = 9 then .last else .plain

theorem kindOf_first (n : ℕ) : kindOf n = .first ↔ n = 0 := by unfold kindOf; split_ifs <;> simp_all
theorem kindOf_half (n : ℕ) : kindOf n = .half ↔ n = 4 := by unfold kindOf; split_ifs <;> simp_all
theorem kindOf_last (n : ℕ) : kindOf n = .last ↔ n = 9 := by unfold kindOf; split_ifs <;> simp_all

theorem kindOf_at (t : Fin cfg0.N) : (kindOf t.val).At (grid0.coords t) := by
  have h1 := isFirst_iff t; have h2 := isMid_iff t; have h3 := isLast_iff t
  unfold kindOf
  split_ifs with a b d
  · exact ⟨h1.mpr a, fun h => by have := h2.mp h; omega, fun h => by have := h3.mp h; omega⟩
  · exact ⟨fun h => a (h1.mp h), h2.mpr b, fun h => by have := h3.mp h; omega⟩
  · exact ⟨fun h => a (h1.mp h), fun h => b (h2.mp h), h3.mpr d⟩
  · exact ⟨fun h => a (h1.mp h), fun h => b (h2.mp h), fun h => d (h3.mp h)⟩

/-- What the body leaves in an input's staging buffer. -/
theorem leaves_in (c : Dev nD) (t : Fin cfg0.N) (w : Fin cfg0.W) (hw : cfg0.idle w (cfg0.grid.coords t) = false) :
    (dats m 0 c).leavesExact w t = owns (c : Thread nD τ) ((cfg0.win w).stage (cfg0.slots t w)) fullShare ((dats m 0 c).after w t) := by
  unfold Dat.leavesExact; rw [hw]

/-- What it leaves in the output's: anything but at the last point, and there the finished block. -/
theorem leaves_out (c : Dev nD) (t : Fin cfg0.N) (d : Vec F S256x256 .f32) (hd : t.val = 9 → d = bOut m c) :
    owns (c : Thread nD τ) (st5 t) fullShare d ⊢ ((dats m 0 c).leavesExact 5 t : sProp 𝕄) := by
  by_cases h : t.val = 9
  · rw [leaves_in m c t 5 (live_5 t h), after0_5, hd h]
  · rw [(dats m 0 c).leavesExact_idle 5 t (idle_5 t h) (noflush_5 t h)]
    iintro H; iexists d
    rw [before0_5 m c d t.val t.isLt]
    iexact H

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_in m c t 0 rfl, leaves_in m c t 1 rfl, leaves_in m c t 2 rfl, leaves_in m c t 3 rfl, leaves_in m c t 4 rfl,
    after0_0, after0_1, after0_2, after0_3, after0_4]
  have ht : t.val < 10 := Nat.lt_of_lt_of_eq t.isLt N_0
  have hp := pt_val t
  have hX : bX m c t.val = iblk m c 0 t := by unfold bX; rw [hp]
  have hB : bB m c t.val = iblk m c 1 t := by unfold bB; rw [hp]
  have hW : bW m c t.val = iblk m c 2 t := by unfold bW; rw [hp]
  have hG : bG m c t.val = iblk m c 3 t := by unfold bG; rw [hp]
  have hW2 : bW2 m c t.val = iblk m c 4 t := by unfold bW2; rw [hp]
  rw [← hX, ← hB, ← hW, ← hG, ← hW2]
  unfold PhiS
  iintro ⟨⟨⟨%a, %b, %d, %e, %hinv, HA, HB, HD, HE⟩, Hg⟩, Ho, ⟨%d0, H0⟩, ⟨%d1, H1⟩, ⟨%d2, H2⟩, ⟨%d3, H3⟩, ⟨%d4, H4⟩, ⟨%d5, H5⟩⟩
  have H := hinv.resolve_left (by omega)
  iapply (step (kindOf t.val) c (grid0.coords t) _ _ _ _ _ _ _ _ _ _ _ _ _ _ _ _ _ _ _ _ (kindOf_at t)
    (bX m c t.val) (bB m c t.val) (bW m c t.val) (bG m c t.val) (bW2 m c t.val) a b d e Set.univ _)
  isplitl [H0]; · iexact H0
  isplitl [H1]; · iexact H1
  isplitl [H2]; · iexact H2
  isplitl [H3]; · iexact H3
  isplitl [H4]; · iexact H4
  isplitl [H5]; · iexists _; iexact H5
  isplitl [HA]; · iexact HA
  isplitl [HB]; · iexact HB
  isplitl [HD]; · iexact HD
  isplitl [HE]; · iexact HE
  iintro ⟨H0, H1, H2, H3, H4, ⟨%x, %hx, H5⟩, HA, HB, HD, HE⟩
  isplitl [HA HB HD HE Hg]
  · isplitl [HA HB HD HE]
    · iexists _; iexists _; iexists _; iexists _
      isplitr
      · ipureintro
        show InvAt m c (t.val + 1) _ _ _ _
        rcases H.next (i := grid0.coords t) (coord_val t) (X := bX m c t.val) (B := bB m c t.val) (W := bW m c t.val) (G := bG m c t.val) rfl rfl (kindOf_first _) (kindOf_half _) (kindOf_last _) ht rfl rfl with h | h
        · exact .inl (by omega)
        · exact .inr h
      isplitl [HA]; · iexact HA
      isplitl [HB]; · iexact HB
      isplitl [HD]; · iexact HD
      iexact HE
    iexact Hg
  isplitl [Ho]; · iexact Ho
  isplitl [H0]; · iexact H0
  isplitl [H1]; · iexact H1
  isplitl [H2]; · iexact H2
  isplitl [H3]; · iexact H3
  isplitl [H4]; · iexact H4
  iapply (leaves_out m c t x ?_)
  · intro h9
    rw [hx ((kindOf_last _).mpr h9)]
    unfold bOut bS
    rw [H.full_wall (i := grid0.coords t) (coord_val t) (X := bX m c t.val) (W := bW m c t.val) rfl 1 (by omega),
      H.full_oh (i := grid0.coords t) (coord_val t) (X := bX m c t.val) (B := bB m c t.val) (W := bW m c t.val) (G := bG m c t.val) rfl 1 (by omega),
      H.sum (by omega), H.den (by omega)]
    rw [h9]; rfl
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every execution terminates, the input arrays are unchanged, the output array is what the proof data
    say, every other buffer is as the launch found it, and every counter is zero. -/
theorem run_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Phi_in m c) (hout := fun c => Phi_out m c _)

theorem run_main : θ_run defs (onTc (τ := τ) (main (F := F))) (s₀ m ρ) (Pipeline.FramePost cfgs (dats m) 0 (V m)) :=
  (θ_run defs _ _).mono (fun _ h => h.1) (run_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_quiescent m ρ))

end Cert.KernelIdeal.Pool

end
-- ==== Proof.Result.lean ====
/- What the run leaves in the result array: the finished output block. -/
module

public import proofs.«01_k».proof.Proof.Launch

@[expose] public section

set_option maxRecDepth 65536

noncomputable section

namespace Cert.KernelIdeal.Pool

open Idealize.ShloMosaic Idealize.ShloMosaic.TcCoe Idealize.ShloMosaic.Tactic
open Idealize.SL Idealize.SL.Sem
open Idealize.ShloMosaic.Pipeline (Dat Cfg Window)
open Cert.KernelIdeal.Gen

variable {F : FTy → Type} [FloatOps F]
variable (m : (ℓ : Loc nD τ sig) → Buf (Elt F) ℓ) (ρ : Dev nD → PrngReg)

/-- The finished block, as contents of the result array. -/
abbrev result (c : Dev nD) : Buf (Elt F) ((c : Thread nD τ).loc main_v15) := bOut m c

theorem index5 (t : Fin cfg0.N) : (fun a => win0_5.index t a * main_v15.ty.shape.size a) = fun _ => 0 := by
  funext a
  match a with
  | ⟨0, _⟩ => show 0 * 256 = 0; rfl
  | ⟨1, _⟩ => show 0 * 256 = 0; rfl

/-- The one write-back writes the whole of it, -/
theorem flushed5 (c : Dev nD) (t : Fin cfg0.N) (hf : (cfg0.win 5).flush t = true) :
    (dats m 0 c).flushed 5 t = ((cfg0.win 5).blk t).view.read (Elt F) (result m c) := by
  show (cfg0.win 5).cut (grid0.coords t) ((dats m 0 c).after 5 t) = _
  rw [after0_5]
  exact (Memref.read_access_unit_zero (Elt F) main_v15 (index5 t) (fun a => by rw [congrFun (index5 t) a]; simp) (result m c)).symm

/-- so the result array ends holding it. -/
theorem final5 (c : Dev nD) : (dats m 0 c).arrAt 5 cfg0.N = result m c :=
  (dats m 0 c).arrAt_eq_of_cover 5 (result m c) (flushed5 m c) fun i =>
    ⟨pt 9, (flush0_5 (pt 9)).mpr rfl, by
      show i ∈ ((View.whole main_v15).slice (win0_5.rect (pt 9))).set
      rw [View.set_slice_whole, Rect.mem_set_unit]
      intro a
      have h0 : (i 0 : Nat) < 256 := (i 0).isLt
      have h1 : (i 1 : Nat) < 256 := (i 1).isLt
      match a with
      | ⟨0, _⟩ => exact ⟨Nat.zero_le _, h0⟩
      | ⟨1, _⟩ => exact ⟨Nat.zero_le _, h1⟩⟩

/-- The run, read: the result array at the finished block. -/
theorem run_result : θ_run defs (onTc (τ := τ) (main (F := F))) ⟨m, fun _ => 0, ρ⟩ (fun r => ∀ c : Dev nD,
      r.2.mem ((c.tc : Thread nD τ).loc main_v15) = bOut m c) :=
  (θ_run defs _ _).mono (fun _ h c => ((h c).1 5).trans (final5 m c)) (run_main m ρ)

end Cert.KernelIdeal.Pool

end
-- ==== Proof.Frames.lean ====
/- The three frames, and the shape facts of the precondition. The kernel's frame is the ideal kernel's: the two
   programs have one text. -/
module

public import proofs.«01_k».proof.Defs
public import proofs.«01_k».proof.Proof.Launch
public import proofs.«01_k».proof.Proof.Gen.Kernel.Frame
public import proofs.«01_k».proof.Proof.Gen.ReferenceIdeal.Run
public import Idealize.ShloMosaic.Lib.Quiescent

@[expose] public section

set_option maxRecDepth 65536

noncomputable section

namespace Cert.Pool

open Idealize.ShloMosaic Idealize.ShloMosaic.TcCoe Idealize.SL.Sem

variable {F : FTy → Type} [FloatOps F]

instance kernelFacts : Cert.Kernel.Facts := Cert.Kernel.Gen.facts
instance kernelIdealFacts : Cert.KernelIdeal.Facts := Cert.KernelIdeal.Gen.facts

/-- The two programs' loop bodies are one text, -/
theorem defs₀_eq : (Cert.Kernel.defs₀ (F := F)) = Cert.KernelIdeal.defs₀ := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- so are their definitions, -/
theorem defs_eq : (Cert.Kernel.defs (F := F)) = Cert.KernelIdeal.defs := by
  unfold Cert.Kernel.defs Cert.KernelIdeal.defs
  rw [defs₀_eq]; rfl

/-- and so is `main`. -/
theorem main_eq : (Cert.Kernel.main (F := F)) = Cert.KernelIdeal.main := rfl

theorem frame_Kernel : Cert.quiescent_Kernel := by
  intro m g _
  rw [defs_eq, main_eq]
  exact Cert.KernelIdeal.Pool.frame (F := Bits) m g

theorem frame_KernelIdeal : Cert.quiescent_KernelIdeal := fun m g _ => Cert.KernelIdeal.Pool.frame m g

/-- The reference has no semaphore at all. -/
theorem frame_ReferenceIdeal [Cert.ReferenceIdeal.Facts] : Cert.quiescent_ReferenceIdeal := fun m g _ =>
  (θ_run Cert.ReferenceIdeal.defs _ _).mono (fun r h => ⟨fun c => (h c).2, sem_eq_zero_of_no_sems (by rfl) r.2⟩) (Cert.ReferenceIdeal.Value.run m g)

instance preFacts : Cert.Pre_without_biases.Facts := by
  constructor <;> decide

end Cert.Pool

end
-- ==== Proof.Payload.lean ====
/- What one block computes, entry by entry, over the extended reals. -/
module

public import proofs.«01_k».proof.Proof.Contents
public import Idealize.ShloMosaic.Lib.Pointwise

@[expose] public section

set_option maxRecDepth 65536

noncomputable section

namespace Cert.KernelIdeal.Pool

open Idealize.ShloMosaic Idealize.ShloMosaic.TcCoe Idealize.ShloMosaic.Tactic
open Idealize.SL Idealize.SL.Sem
open Cert.KernelIdeal.Gen

/-- The product of a sub-block with the stacked first weights, cut off below at zero. -/
theorem pay18_apply (x : Vec Ideal S256x256 .bf16) (w : Vec Ideal S256x4096 .bf16) (k : Fin 256) (p : Fin 4096) :
    k0_pay18 x w (ix2 k p) = max (∑ i : Fin 256, x (ix2 k i) * w (ix2 i p)) 0 := by
  unfold k0_pay18
  pointwise

/-- The first half of its columns. -/
theorem pay19_apply (x : Vec Ideal S256x256 .bf16) (w : Vec Ideal S256x4096 .bf16) (k : Fin 256) (p : Fin 2048) :
    k0_pay19 x w (ix2 k p) = max (∑ i : Fin 256, x (ix2 k i) * w (ix2 i ⟨p.val, by omega⟩)) 0 := by
  unfold k0_pay19
  pointwise [pay18_apply]

/-- The second half, as stored. -/
theorem uBlk_apply (x : Vec Ideal S256x256 .bf16) (w : Vec Ideal S256x4096 .bf16) (k : Fin 256) (p : Fin 2048) :
    uBlk x w (ix2 k p) = max (∑ i : Fin 256, x (ix2 k i) * w (ix2 i ⟨2048 + p.val, by omega⟩)) 0 := by
  unfold uBlk k0_pay29
  pointwise [pay18_apply]

/-- The exponentials: head `h`'s gate is the sum of its 512 columns against its stretch of the gate row. -/
theorem eBlk_apply (x : Vec Ideal S256x256 .bf16) (w : Vec Ideal S256x4096 .bf16) (g : Fin 4 → Vec Ideal S1x512 .f32) (k : Fin 256) (h : Fin 4) :
    eBlk x w g (ix2 k h)
      = Ideal.exp (∑ j : Fin 512, max (∑ i : Fin 256, x (ix2 k i) * w (ix2 i ⟨512 * h.val + j.val, by omega⟩)) 0 * g h (ix2 0 j)) := by
  have h20 : k0_pay20 x w (g 0) (ix2 k 0) = ∑ j : Fin 512, k0_pay19 x w (ix2 k ⟨j.val, by omega⟩) * g 0 (ix2 0 j) := by
    unfold k0_pay20
    pointwise
  unfold eBlk k0_pay21
  fin_cases h
  all_goals
    pointwise
    try simp only [h20, pay19_apply]
    try pointwise

/-- The indicators: 1 where the row's graph is `g`, 0 elsewhere. -/
theorem pay17_apply (b : Vec Ideal S1x1x1024 .i32) (g : Fin 256) (k : Fin 1024) :
    (k0_pay17 b (ix2 g k) : EReal) = if b (ix3 0 0 k) = BitVec.ofNat 32 g.val then 1 else 0 := by
  unfold k0_pay17
  pointwise
  by_cases h : b (ix3 0 0 k) = BitVec.ofNat 32 g.val
  · rw [if_pos h, h]
    simp [IntOp.cmpi, FloatOps.sitofp]
  · rw [if_neg h]
    have h' : (BitVec.ofNat 32 g.val == b (ix3 0 0 k)) = false := beq_eq_false_iff_ne.2 (Ne.symm h)
    simp [IntOp.cmpi, FloatOps.sitofp, h']

/-- A sub-block's indicators are a stretch of the block's. -/
theorem indBlk_apply (r : Fin 4) (v : FVec Ideal S256x1024 .bf16) (g k : Fin 256) :
    indBlk r v (ix2 g k) = v (ix2 g ⟨256 * r.val + k.val, by omega⟩) := by
  fin_cases r
  · show k0_pay23 v (ix2 g k) = _
    unfold k0_pay23
    pointwise
  · show k0_pay36 v (ix2 g k) = _
    unfold k0_pay36
    pointwise
  · show k0_pay48 v (ix2 g k) = _
    unfold k0_pay48
    pointwise
  · show k0_pay60 v (ix2 g k) = _
    unfold k0_pay60
    pointwise

/-- One head's weighted indicators of a sub-block. -/
theorem ohBlk_apply (h : Fin 4) (e : FVec Ideal S256x4 .bf16) (ind : FVec Ideal S256x256 .bf16) (g k : Fin 256) :
    ohBlk h e ind (ix3 0 g k) = (ind (ix2 g k) * e (ix2 k h) : EReal) := by
  unfold ohBlk k0_pay27 headRow
  fin_cases h <;> pointwise

/-- One step of the denominators. -/
theorem denStep_apply (e : FVec Ideal S256x4 .bf16) (ind : FVec Ideal S256x256 .bf16) (d : Vec Ideal S256x4 .f32) (g : Fin 256) (h : Fin 4) :
    denStep e ind d (ix2 g h) = (d (ix2 g h) + ∑ k : Fin 256, ind (ix2 g k) * e (ix2 k h) : EReal) := by
  unfold denStep k0_pay30
  pointwise

theorem ohLayer_idx (h : Fin 4) (g : Fin 256) (k : Fin 5120) : (ohLayer h).toLoadRect.idx (ix3 0 g k) = ix3 h g k := by
  funext a
  apply Fin.ext
  match a with
  | ⟨0, _⟩ => show h.val + 1 * 0 = h.val; omega
  | ⟨1, _⟩ => show 0 + 1 * g.val = g.val; omega
  | ⟨2, _⟩ => show 0 + 1 * k.val = k.val; omega

theorem wallCol_idx (h : Fin 4) (k : Fin 5120) (j : Fin 512) :
    (wallCol h).toLoadRect.idx (ix2 k j) = ix2 k ⟨512 * h.val + j.val, by omega⟩ := by
  funext a
  apply Fin.ext
  match a with
  | ⟨0, _⟩ => show 0 + 1 * k.val = k.val; omega
  | ⟨1, _⟩ => show 512 * h.val + 1 * j.val = 512 * h.val + j.val; omega

theorem colRect_idx (h : Fin 4) (g : Fin 256) (j : Fin 512) :
    (colRect h).toLoadRect.idx (ix2 g j) = ix2 g ⟨512 * h.val + j.val, by omega⟩ := by
  funext a
  apply Fin.ext
  match a with
  | ⟨0, _⟩ => show 0 + 1 * g.val = g.val; omega
  | ⟨1, _⟩ => show 512 * h.val + 1 * j.val = 512 * h.val + j.val; omega

theorem pay4_apply (x : Vec Ideal S1x256x5120 .bf16) (w : Vec Ideal S5120x512 .bf16) (g : Fin 256) (j : Fin 512) :
    k0_pay4 x w (ix2 g j) = ∑ k : Fin 5120, x (ix3 0 g k) * w (ix2 k j) := by
  unfold k0_pay4
  pointwise

theorem pay8_apply (x : Vec Ideal S1x256x5120 .bf16) (w : Vec Ideal S5120x512 .bf16) (s : Vec Ideal S256x512 .f32) (g : Fin 256) (j : Fin 512) :
    k0_pay8 x w s (ix2 g j) = s (ix2 g j) + ∑ k : Fin 5120, x (ix3 0 g k) * w (ix2 k j) := by
  unfold k0_pay8
  pointwise

/-- One head's sums over half of the rows. -/
theorem halfSum_apply (oh : Vec Ideal S4x256x5120 .bf16) (wall : Vec Ideal S5120x2048 .bf16) (h : Fin 4) (g : Fin 256) (j : Fin 512) :
    halfSum oh wall h (ix2 g j)
      = (∑ k : Fin 5120, oh (ix3 h g k) * wall (ix2 k ⟨512 * h.val + j.val, by omega⟩) : EReal) := by
  refine (pay4_apply _ _ g j).trans (Finset.sum_congr rfl fun k _ => ?_)
  exact congrArg₂ (fun a b : EReal => a * b) (congrArg oh (ohLayer_idx h g k)) (congrArg wall (wallCol_idx h k j))

/-- The same added onto earlier sums. -/
theorem fullSum_apply (oh : Vec Ideal S4x256x5120 .bf16) (wall : Vec Ideal S5120x2048 .bf16) (s : Vec Ideal S256x2048 .f32) (h : Fin 4) (g : Fin 256) (j : Fin 512) :
    fullSum oh wall s h (ix2 g j)
      = (s (ix2 g ⟨512 * h.val + j.val, by omega⟩) + ∑ k : Fin 5120, oh (ix3 h g k) * wall (ix2 k ⟨512 * h.val + j.val, by omega⟩) : EReal) := by
  refine (pay8_apply _ _ _ g j).trans ?_
  refine congrArg₂ (fun a b : EReal => a + b) (congrArg s (colRect_idx h g j)) (Finset.sum_congr rfl fun k _ => ?_)
  exact congrArg₂ (fun a b : EReal => a * b) (congrArg oh (ohLayer_idx h g k)) (congrArg wall (wallCol_idx h k j))

/-- Four stretches of 512 side by side, read at a column. -/
theorem stretches (f : Fin 4 → Fin 512 → EReal) (p : Fin 2048) :
    (if h : p.val < 512 then f 0 ⟨p.val, h⟩
     else if h : p.val - 512 < 512 then f 1 ⟨p.val - 512, h⟩
     else if h : p.val - 512 - 512 < 512 then f 2 ⟨p.val - 512 - 512, h⟩
     else f 3 ⟨p.val - 512 - 512 - 512, by omega⟩) = f ⟨p.val / 512, by omega⟩ ⟨p.val % 512, by omega⟩ := by
  have key : ∀ (a : Fin 4) (b : Fin 512), p.val = 512 * a.val + b.val → f a b = f ⟨p.val / 512, by omega⟩ ⟨p.val % 512, by omega⟩ := by
    intro a b e
    congr 1 <;> apply Fin.ext <;> simp only [] <;> omega
  split_ifs with h1 h2 h3
  · exact key _ _ (by simp)
  · exact key _ _ (by simp; omega)
  · exact key _ _ (by simp; omega)
  · exact key _ _ (by simp; omega)

/-- The output block. -/
theorem finOut_apply (den : Vec Ideal S256x4 .f32) (s : Fin 4 → Vec Ideal S256x512 .f32) (w2 : Vec Ideal S2048x256 .bf16) (g o : Fin 256) :
    finOut den s w2 (ix2 g o)
      = ((∑ p : Fin 2048, (s ⟨p.val / 512, by omega⟩ (ix2 g ⟨p.val % 512, by omega⟩)
            * Ideal.div 1 (den (ix2 g ⟨p.val / 512, by omega⟩) + Ideal.ofBits .f32 0x24E69595#32)) * w2 (ix2 p o))
          * Ideal.ofBits .f32 0x3E800000#32 : EReal) := by
  unfold finOut k0_pay3 k0_pay12 k0_pay13 k0_pay14 k0_pay15
  pointwise
  refine congrArg (fun a : EReal => a * _) (Finset.sum_congr rfl fun p _ => congrArg (fun a : EReal => a * _) ?_)
  exact stretches (fun h j => s h (ix2 g j) * Ideal.div 1 (den (ix2 g h) + Ideal.ofBits .f32 0x24E69595#32)) p

end Cert.KernelIdeal.Pool

end
-- ==== Proof.Blocks.lean ====
/- The blocks the kernel's points read, entry by entry, as entries of the argument arrays. -/
module

public import proofs.«01_k».proof.Proof.Launch
public import Idealize.ShloMosaic.Lib.Pointwise
public import Idealize.ShloMosaic.Lib.StableHlo.ReadAt

@[expose] public section

set_option maxRecDepth 65536

noncomputable section

namespace Cert.KernelIdeal.Pool

open Idealize.ShloMosaic Idealize.ShloMosaic.TcCoe Idealize.ShloMosaic.Tactic
open Idealize.SL Idealize.SL.Sem
open Cert.KernelIdeal.Gen

variable (m : (ℓ : Loc nD τ sig) → Buf (Elt Ideal) ℓ)

/-! ## A block is a stretch of its array -/

theorem bX_V (c : Dev nD) (n : ℕ) (k : Fin 1024) (i : Fin 256) :
    bX m c n (ix2 k i) = V m c main_v1 (ix2 ⟨1024 * (n % 10) + k.val, by omega⟩ i) := by
  unfold bX iblk
  rw [View.read_apply]
  show V m c main_v1 _ = V m c main_v1 _
  congr 1
  funext a
  apply Fin.ext
  match a with
  | ⟨0, _⟩ =>
    show (BitVec.ofNat 32 (grid0.coords (pt n) 0).val).toNat * 1024 + 1 * k.val = 1024 * (n % 10) + k.val
    rw [coord_val]
    show (BitVec.ofNat 32 (n % 10)).toNat * 1024 + 1 * k.val = _
    rw [BitVec.toNat_ofNat]; omega
  | ⟨1, _⟩ => show 0 * 256 + 1 * i.val = i.val; omega

theorem bB_V (c : Dev nD) (n : ℕ) (k : Fin 1024) :
    bB m c n (ix3 0 0 k) = V m c main_v3 (ix3 ⟨n % 10, by omega⟩ 0 k) := by
  unfold bB iblk
  rw [View.read_apply]
  show V m c main_v3 _ = V m c main_v3 _
  congr 1
  funext a
  apply Fin.ext
  match a with
  | ⟨0, _⟩ =>
    show (BitVec.ofNat 32 (grid0.coords (pt n) 0).val).toNat * 1 + 1 * 0 = n % 10
    rw [coord_val]
    show (BitVec.ofNat 32 (n % 10)).toNat * 1 + 1 * 0 = _
    rw [BitVec.toNat_ofNat]; omega
  | ⟨1, _⟩ => rfl
  | ⟨2, _⟩ => show 0 * 1024 + 1 * k.val = k.val; omega

theorem bW_V (c : Dev nD) (n : ℕ) (i : Fin 256) (p : Fin 4096) : bW m c n (ix2 i p) = V m c main_v9 (ix2 i p) := by
  unfold bW iblk
  rw [View.read_apply]
  show V m c main_v9 _ = V m c main_v9 _
  congr 1
  funext a
  apply Fin.ext
  match a with
  | ⟨0, _⟩ => show 0 * 256 + 1 * i.val = i.val; omega
  | ⟨1, _⟩ => show 0 * 4096 + 1 * p.val = p.val; omega

theorem bG_V (c : Dev nD) (n : ℕ) (r : Fin 8) (p : Fin 2048) : bG m c n (ix2 r p) = V m c main_v12 (ix2 r p) := by
  unfold bG iblk
  rw [View.read_apply]
  show V m c main_v12 _ = V m c main_v12 _
  congr 1
  funext a
  apply Fin.ext
  match a with
  | ⟨0, _⟩ => show 0 * 8 + 1 * r.val = r.val; omega
  | ⟨1, _⟩ => show 0 * 2048 + 1 * p.val = p.val; omega

theorem bW2_V (c : Dev nD) (n : ℕ) (p : Fin 2048) (o : Fin 256) : bW2 m c n (ix2 p o) = V m c main_v14 (ix2 p o) := by
  unfold bW2 iblk
  rw [View.read_apply]
  show V m c main_v14 _ = V m c main_v14 _
  congr 1
  funext a
  apply Fin.ext
  match a with
  | ⟨0, _⟩ => show 0 * 2048 + 1 * p.val = p.val; omega
  | ⟨1, _⟩ => show 0 * 256 + 1 * o.val = o.val; omega

/-! ## The arrays the launch finds -/

abbrev aX (c : Dev nD) : Vec Ideal S10000x256 .f32 := m ((c : Thread nD τ).loc main_arg0)
abbrev aB (c : Dev nD) : Vec Ideal S10000 .i32 := m ((c : Thread nD τ).loc main_arg1)
abbrev aWg (c : Dev nD) : Vec Ideal S4x256x512 .f32 := m ((c : Thread nD τ).loc main_arg2)
abbrev aVg (c : Dev nD) : Vec Ideal S4x512x1 .f32 := m ((c : Thread nD τ).loc main_arg4)
abbrev aWh (c : Dev nD) : Vec Ideal S4x256x512 .f32 := m ((c : Thread nD τ).loc main_arg6)
abbrev aVh (c : Dev nD) : Vec Ideal S4x512x256 .f32 := m ((c : Thread nD τ).loc main_arg8)

/-- The padded rows are zero, -/
theorem V_x (c : Dev nD) (n : Fin 10240) (i : Fin 256) :
    V m c main_v1 (ix2 n i) = (if h : n.val < 10000 then aX m c (ix2 ⟨n.val, h⟩ i) else FloatOps.sitofp (F := Ideal) .f32 0#32 : EReal) := by
  unfold V
  after_reads_at

/-- and belong to no graph. -/
theorem V_b (c : Dev nD) (q : Fin 10) (k : Fin 1024) :
    V m c main_v3 (ix3 q 0 k) = (if h : 1024 * q.val + k.val < 10000 then aB m c (ix1 ⟨1024 * q.val + k.val, h⟩) else 256#32 : BitVec 32) := by
  unfold V
  after_reads_at
  have e : q.val * 1024 + k.val = 1024 * q.val + k.val := by omega
  simp only [e]
  rfl

/-- The first-layer weights, stacked side by side: gates first, -/
theorem V_wg (c : Dev nD) (i : Fin 256) (p : Fin 2048) :
    V m c main_v9 (ix2 i ⟨p.val, by omega⟩) = (aWg m c (ix3 ⟨p.val / 512, by omega⟩ i ⟨p.val % 512, by omega⟩) : EReal) := by
  unfold V
  after_reads_at
  unfold StableHlo.upto
  after_reads_at

/-- hidden rows after them. -/
theorem V_wh (c : Dev nD) (i : Fin 256) (p : Fin 2048) :
    V m c main_v9 (ix2 i ⟨2048 + p.val, by omega⟩) = (aWh m c (ix3 ⟨p.val / 512, by omega⟩ i ⟨p.val % 512, by omega⟩) : EReal) := by
  unfold V
  after_reads_at
  unfold StableHlo.upto
  after_reads_at

/-- The gate row, repeated. -/
theorem V_g (c : Dev nD) (r : Fin 8) (p : Fin 2048) :
    V m c main_v12 (ix2 r p) = (aVg m c (ix3 ⟨p.val / 512, by omega⟩ ⟨p.val % 512, by omega⟩ 0) : EReal) := by
  unfold V
  after_reads_at

/-- The second-layer weights, stacked. -/
theorem V_w2 (c : Dev nD) (p : Fin 2048) (o : Fin 256) :
    V m c main_v14 (ix2 p o) = (aVh m c (ix3 ⟨p.val / 512, by omega⟩ ⟨p.val % 512, by omega⟩ o) : EReal) := by
  unfold V
  after_reads_at

end Cert.KernelIdeal.Pool

end
-- ==== Proof.Value.lean ====
/- The kernel's output over the extended reals, as sums over the rows. -/
module

public import proofs.«01_k».proof.Proof.Payload
public import proofs.«01_k».proof.Proof.Blocks

@[expose] public section

set_option maxRecDepth 65536

noncomputable section

namespace Cert.KernelIdeal.Pool

open Idealize.ShloMosaic Idealize.ShloMosaic.TcCoe Idealize.ShloMosaic.Tactic
open Idealize.SL Idealize.SL.Sem
open Cert.KernelIdeal.Gen

variable (m : (ℓ : Loc nD τ sig) → Buf (Elt Ideal) ℓ) (c : Dev nD)

/-! ## One row -/

/-- Row `N` of the padded rows, -/
def rX (N : ℕ) (i : Fin 256) : EReal := if h : N < 10000 then aX m c (ix2 ⟨N, h⟩ i) else FloatOps.sitofp (F := Ideal) .f32 0#32
/-- its graph, -/
def rB (N : ℕ) : BitVec 32 := if h : N < 10000 then aB m c (ix1 ⟨N, h⟩) else 256#32
/-- whether that is graph `g`, -/
def rInd (g : Fin 256) (N : ℕ) : EReal := if rB m c N = BitVec.ofNat 32 g.val then 1 else 0
/-- the exponential of its gate for head `h`, -/
def rE (h : Fin 4) (N : ℕ) : EReal :=
  Ideal.exp (∑ j : Fin 512, max (∑ i : Fin 256, rX m c N i * (aWg m c (ix3 h i j) : EReal)) 0 * (aVg m c (ix3 h j 0) : EReal))
/-- and its hidden row for head `h`. -/
def rU (h : Fin 4) (j : Fin 512) (N : ℕ) : EReal := max (∑ i : Fin 256, rX m c N i * (aWh m c (ix3 h i j) : EReal)) 0

theorem xRect_idx (r : Fin 4) (k i : Fin 256) : (xRect r).toLoadRect.idx (ix2 k i) = ix2 ⟨256 * r.val + k.val, by omega⟩ i := by
  funext a
  apply Fin.ext
  match a with
  | ⟨0, _⟩ => show 256 * r.val + 1 * k.val = 256 * r.val + k.val; omega
  | ⟨1, _⟩ => show 0 + 1 * i.val = i.val; omega

theorem gRect_idx (h : Fin 4) (j : Fin 512) : (gRect h).toLoadRect.idx (ix2 0 j) = ix2 0 ⟨512 * h.val + j.val, by omega⟩ := by
  funext a
  apply Fin.ext
  match a with
  | ⟨0, _⟩ => rfl
  | ⟨1, _⟩ => show 512 * h.val + 1 * j.val = 512 * h.val + j.val; omega

/-- A sub-block's rows are padded rows. -/
theorem xOf_apply (n : ℕ) (hn : n < 10) (r : Fin 4) (k i : Fin 256) :
    xOf (bX m c n) r (ix2 k i) = rX m c (1024 * n + 256 * r.val + k.val) i := by
  refine (congrArg (bX m c n) (xRect_idx r k i)).trans ?_
  rw [bX_V, V_x]
  unfold rX
  have e : 1024 * (n % 10) + (256 * r.val + k.val) = 1024 * n + 256 * r.val + k.val := by omega
  simp only [e]

/-- A block's graphs are the padded rows'. -/
theorem bB_apply (n : ℕ) (hn : n < 10) (k : Fin 1024) : bB m c n (ix3 0 0 k) = rB m c (1024 * n + k.val) := by
  rw [bB_V, V_b]
  unfold rB
  have e : 1024 * (n % 10) + k.val = 1024 * n + k.val := by omega
  simp only [e]

theorem bWg_apply (n : ℕ) (h : Fin 4) (i : Fin 256) (j : Fin 512) :
    bW m c n (ix2 i ⟨512 * h.val + j.val, by omega⟩) = (aWg m c (ix3 h i j) : EReal) := by
  rw [bW_V]
  refine (V_wg m c i ⟨512 * h.val + j.val, by omega⟩).trans (congrArg (aWg m c) ?_)
  congr 1 <;> apply Fin.ext <;> simp only [] <;> omega

theorem bWh_apply (n : ℕ) (h : Fin 4) (i : Fin 256) (j : Fin 512) :
    bW m c n (ix2 i ⟨2048 + (512 * h.val + j.val), by omega⟩) = (aWh m c (ix3 h i j) : EReal) := by
  rw [bW_V]
  refine (V_wh m c i ⟨512 * h.val + j.val, by omega⟩).trans (congrArg (aWh m c) ?_)
  congr 1 <;> apply Fin.ext <;> simp only [] <;> omega

theorem gOf_apply (n : ℕ) (h : Fin 4) (j : Fin 512) : gOf (bG m c n) h (ix2 0 j) = (aVg m c (ix3 h j 0) : EReal) := by
  refine (congrArg (bG m c n) (gRect_idx h j)).trans ?_
  rw [bG_V]
  refine (V_g m c 0 ⟨512 * h.val + j.val, by omega⟩).trans (congrArg (aVg m c) ?_)
  congr 1 <;> apply Fin.ext <;> simp only [] <;> omega

/-- A block's exponentials are the rows'. -/
theorem eOf_apply (n : ℕ) (hn : n < 10) (r : Fin 4) (k : Fin 256) (h : Fin 4) :
    eOf (bX m c n) (bW m c n) (bG m c n) r (ix2 k h) = rE m c h (1024 * n + 256 * r.val + k.val) := by
  unfold eOf
  rw [eBlk_apply]
  unfold rE
  refine congrArg Ideal.exp (Finset.sum_congr rfl fun j _ => ?_)
  rw [gOf_apply]
  refine congrArg (fun a : EReal => max a 0 * _) (Finset.sum_congr rfl fun i _ => ?_)
  rw [xOf_apply m c n hn, bWg_apply]

/-- So are its hidden rows, -/
theorem bU_apply (n : ℕ) (hn : n < 10) (k : Fin 5120) (h : Fin 4) (j : Fin 512) :
    bU m c n (ix2 k ⟨512 * h.val + j.val, by omega⟩) = rU m c h j (1024 * n + k.val % 1024) := by
  show uBlk (xOf (bX m c n) (subOf k.val)) (bW m c n) (ix2 (inSub k.val) ⟨512 * h.val + j.val, by omega⟩) = _
  rw [uBlk_apply]
  unfold rU
  refine congrArg (fun a : EReal => max a 0) (Finset.sum_congr rfl fun i _ => ?_)
  rw [xOf_apply m c n hn, bWh_apply]
  have e : 1024 * n + 256 * (subOf k.val).val + (inSub k.val).val = 1024 * n + k.val % 1024 := by
    show 1024 * n + 256 * (k.val % 1024 / 256) + k.val % 256 = _; omega
  rw [e]

/-- its indicators -/
theorem ind_apply (n : ℕ) (hn : n < 10) (r : Fin 4) (g k : Fin 256) :
    (indBlk r (k0_pay17 (bB m c n)) (ix2 g k) : EReal) = rInd m c g (1024 * n + 256 * r.val + k.val) := by
  rw [indBlk_apply, pay17_apply, bB_apply m c n hn]
  unfold rInd
  have e : 1024 * n + (256 * r.val + k.val) = 1024 * n + 256 * r.val + k.val := by omega
  simp only [e]

/-- and its weighted indicators. -/
theorem bO_apply (n : ℕ) (hn : n < 10) (k : Fin 5120) (h : Fin 4) (g : Fin 256) :
    bO m c n (ix3 h g k) = (rInd m c g (1024 * n + k.val % 1024) * rE m c h (1024 * n + k.val % 1024) : EReal) := by
  show ohBlk h (eOf (bX m c n) (bW m c n) (bG m c n) (subOf k.val)) (indBlk (subOf k.val) (k0_pay17 (bB m c n))) (ix3 0 g (inSub k.val)) = _
  rw [ohBlk_apply, ind_apply m c n hn, eOf_apply m c n hn]
  have e : 1024 * n + 256 * (subOf k.val).val + (inSub k.val).val = 1024 * n + k.val % 1024 := by
    show 1024 * n + 256 * (k.val % 1024 / 256) + k.val % 256 = _; omega
  rw [e]

/-! ## Sums over the rows -/

/-- One step of the denominators adds on the next 256 rows. -/
theorem den_step (n : ℕ) (hn : n < 10) (r : Fin 4) (d : Vec Ideal S256x4 .f32) (g : Fin 256) (h : Fin 4)
    (hd : (d (ix2 g h) : EReal) = ∑ N ∈ Finset.range (1024 * n + 256 * r.val), rInd m c g N * rE m c h N) :
    denStep (eOf (bX m c n) (bW m c n) (bG m c n) r) (indBlk r (k0_pay17 (bB m c n))) d (ix2 g h)
      = ∑ N ∈ Finset.range (1024 * n + 256 * r.val + 256), rInd m c g N * rE m c h N := by
  rw [denStep_apply, hd, Finset.sum_range_add _ (1024 * n + 256 * r.val) 256, Finset.sum_range (n := 256)]
  refine congrArg (fun a : EReal => _ + a) (Finset.sum_congr rfl fun k _ => ?_)
  rw [ind_apply m c n hn, eOf_apply m c n hn]

/-- The denominators of the first `n` blocks are the sums over the first `1024 n` rows. -/
theorem bD_apply (g : Fin 256) (h : Fin 4) : ∀ (n : ℕ), n ≤ 10 →
    (bD m c n (ix2 g h) : EReal) = ∑ N ∈ Finset.range (1024 * n), rInd m c g N * rE m c h N
  | 0, _ => by
    show k0_pay16 (F := Ideal) (ix2 g h) = _
    unfold k0_pay16
    pointwise
    simp
  | n + 1, hn => by
    have ih := bD_apply g h n (by omega)
    show nextDen (bX m c n) (bB m c n) (bW m c n) (bG m c n) (bD m c n) (ix2 g h) = _
    unfold nextDen denPt
    have h0 := den_step m c n (by omega) 0 _ g h ih
    have h1 := den_step m c n (by omega) 1 _ g h h0
    have h2 := den_step m c n (by omega) 2 _ g h h1
    have h3 := den_step m c n (by omega) 3 _ g h h2
    exact h3

/-- Half of the rows' part of a head's sums. -/
theorem half_term (q : ℕ) (hq : q < 2) (h : Fin 4) (g : Fin 256) (j : Fin 512) :
    (∑ k : Fin 5120, (halfOh (bO m c) q (ix3 h g k) * halfWall (bU m c) q (ix2 k ⟨512 * h.val + j.val, by omega⟩) : EReal))
      = ∑ k ∈ Finset.range 5120, rInd m c g (5120 * q + k) * rE m c h (5120 * q + k) * rU m c h j (5120 * q + k) := by
  rw [Finset.sum_range]
  refine Finset.sum_congr rfl fun k _ => ?_
  have hk := k.isLt
  have hn : 5 * q + k.val / 1024 < 10 := by omega
  have e : 1024 * (5 * q + k.val / 1024) + k.val % 1024 = 5120 * q + k.val := by omega
  show bO m c (5 * q + k.val / 1024) (ix3 h g k) * bU m c (5 * q + k.val / 1024) (ix2 k ⟨512 * h.val + j.val, by omega⟩) = _
  rw [bO_apply m c _ hn, bU_apply m c _ hn, e]

/-- A head's sums are the sums over all the rows. -/
theorem bS_apply (h : Fin 4) (g : Fin 256) (j : Fin 512) :
    (bS m c h (ix2 g j) : EReal) = ∑ N ∈ Finset.range 10240, rInd m c g N * rE m c h N * rU m c h j N := by
  unfold bS
  rw [fullSum_apply, half_term m c 1 (by omega)]
  have e : (joinCols (halfSum (halfOh (bO m c) 0) (halfWall (bU m c) 0)) (ix2 g ⟨512 * h.val + j.val, by omega⟩) : EReal)
      = ∑ k ∈ Finset.range 5120, rInd m c g k * rE m c h k * rU m c h j k := by
    rw [← colRect_idx, joinCols_col, halfSum_apply, half_term m c 0 (by omega)]
    simp only [Nat.mul_zero, Nat.zero_add]
  rw [e, show (10240 : ℕ) = 5120 + 5120 from rfl, Finset.sum_range_add]

/-- The padding rows add nothing. -/
theorem sum_rows (g : Fin 256) (f : ℕ → EReal) :
    ∑ N ∈ Finset.range 10240, rInd m c g N * f N = ∑ n : Fin 10000, rInd m c g n.val * f n.val := by
  rw [show (10240 : ℕ) = 10000 + 240 from rfl, Finset.sum_range_add, Finset.sum_range (n := 10000)]
  refine (congrArg (fun a : EReal => _ + a) (Finset.sum_eq_zero fun k hk => ?_)).trans (add_zero _)
  have : rInd m c g (10000 + k) = 0 := by
    unfold rInd rB
    rw [dif_neg (by omega), if_neg]
    intro h
    have := congrArg BitVec.toNat h
    rw [BitVec.toNat_ofNat, BitVec.toNat_ofNat] at this
    omega
  rw [this, zero_mul]

/-- The kernel's output. -/
theorem bOut_apply (g o : Fin 256) :
    (bOut m c (ix2 g o) : EReal)
      = (∑ p : Fin 2048,
          ((∑ n : Fin 10000, rInd m c g n.val * (rE m c ⟨p.val / 512, by omega⟩ n.val * rU m c ⟨p.val / 512, by omega⟩ ⟨p.val % 512, by omega⟩ n.val))
            * Ideal.div 1 ((∑ n : Fin 10000, rInd m c g n.val * rE m c ⟨p.val / 512, by omega⟩ n.val) + Ideal.ofBits .f32 0x24E69595#32))
          * (aVh m c (ix3 ⟨p.val / 512, by omega⟩ ⟨p.val % 512, by omega⟩ o) : EReal))
        * Ideal.ofBits .f32 0x3E800000#32 := by
  unfold bOut
  rw [finOut_apply]
  refine congrArg (fun a : EReal => a * _) (Finset.sum_congr rfl fun p _ => ?_)
  rw [bS_apply, bD_apply m c g _ 10 (by omega), bW2_V, V_w2, sum_rows m c g (fun N => rE m c _ N)]
  have e : ∑ N ∈ Finset.range 10240, rInd m c g N * rE m c ⟨p.val / 512, by omega⟩ N * rU m c ⟨p.val / 512, by omega⟩ ⟨p.val % 512, by omega⟩ N
      = ∑ n : Fin 10000, rInd m c g n.val * (rE m c ⟨p.val / 512, by omega⟩ n.val * rU m c ⟨p.val / 512, by omega⟩ ⟨p.val % 512, by omega⟩ n.val) := by
    rw [← sum_rows m c g (fun N => rE m c ⟨p.val / 512, by omega⟩ N * rU m c ⟨p.val / 512, by omega⟩ ⟨p.val % 512, by omega⟩ N)]
    exact Finset.sum_congr rfl fun N _ => mul_assoc _ _ _
  rw [e]

end Cert.KernelIdeal.Pool

end
-- ==== Proof.Finite.lean ====
/- The literals of both programs as real numbers, and the exponential of a real number. -/
module

public import Idealize.ShloMosaic.PureOps.Ideal
public import Idealize.ShloMosaic.PureOps.Ideal.Laws

@[expose] public section

noncomputable section

namespace Cert.Finite

open Idealize.ShloMosaic

theorem lit_inf : Ideal.ofBits .f32 0x7F800000#32 = ⊤ := by
  simp [Ideal.ofBits, Ideal.ieee]

theorem lit_quarter : Ideal.ofBits .f32 0x3E800000#32 = (((1 : ℝ) / 4 : ℝ) : EReal) := by
  simp [Ideal.ofBits, Ideal.ieee, -EReal.coe_mul]; norm_num

theorem lit_four : Ideal.ofBits .f32 0x40800000#32 = ((4 : ℝ) : EReal) := by
  simp [Ideal.ofBits, Ideal.ieee, -EReal.coe_mul]; norm_num

/-- The small number that both programs add to a denominator is positive. -/
theorem lit_eps : ∃ ε : ℝ, 0 < ε ∧ Ideal.ofBits .f32 0x24E69595#32 = (ε : EReal) := by
  refine ⟨15111573 * 2 ^ (-77 : ℤ), by positivity, ?_⟩
  simp [Ideal.ofBits, Ideal.ieee, -EReal.coe_mul]

/-- A number whose absolute value is below infinity is real. -/
theorem coe_of_abs {x : EReal} (h : max x (-x) < ⊤) : ((x.toReal : ℝ) : EReal) = x := by
  refine EReal.coe_toReal ?_ ?_
  · rintro rfl
    simp at h
  · rintro rfl
    simp at h

/-- A quotient by four is a product with a quarter. -/
theorem div_four (x : EReal) : Ideal.div x (Ideal.ofBits .f32 0x40800000#32) = x * ((1 / 4 : ℝ) : EReal) := by
  rw [lit_four]
  unfold Ideal.div
  rw [if_neg (by norm_num), ← EReal.coe_inv, one_div]

theorem coe_exp (a : ℝ) : Ideal.exp (a : EReal) = ((Real.exp a : ℝ) : EReal) := rfl

end Cert.Finite

end
-- ==== Proof.Attention.lean ====
/- Attention pooling over the extended reals: the form that the reference computes and the form that the kernel computes, and that they are equal.
   Nothing is asked of the values: a gate may be infinite, and so may a weight. -/
module

public import proofs.«01_k».proof.Proof.Finite
public import Mathlib.Algebra.Order.BigOperators.Group.Finset
public import Mathlib.Data.EReal.Inv
public import Mathlib.Logic.Equiv.Fin.Basic

@[expose] public section

noncomputable section

namespace Cert.Attention

open Idealize.ShloMosaic

/-! ## Products with sums -/

/-- A product distributes over a sum of numbers that are not negative. -/
theorem sum_mul {ι : Type} (s : Finset ι) (f : ι → EReal) (hf : ∀ i, 0 ≤ f i) (a : EReal) : (∑ i ∈ s, f i) * a = ∑ i ∈ s, f i * a := by
  classical
  induction s using Finset.induction_on with
  | empty => simp
  | insert i s hi ih => rw [Finset.sum_insert hi, Finset.sum_insert hi, EReal.right_distrib_of_nonneg (hf i) (Finset.sum_nonneg fun k _ => hf k), ih]

/-- A finite factor that is not negative distributes over any sum. -/
theorem mul_sum {ι : Type} (s : Finset ι) (f : ι → EReal) (a : EReal) (h0 : 0 ≤ a) (ht : a ≠ ⊤) : a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

/-! ## Exponentials -/

theorem exp_nonneg (x : EReal) : 0 ≤ Ideal.exp x := by
  induction x with
  | bot => exact le_refl _
  | top => exact le_top
  | coe r => exact EReal.coe_nonneg.2 (Real.exp_pos r).le

/-- A finite shift of an exponent is a factor. -/
theorem exp_sub (x : EReal) (s : ℝ) : Ideal.exp (x - s) = Ideal.exp x * (Real.exp (-s) : ℝ) := by
  induction x with
  | bot =>
    show (0 : EReal) = 0 * _
    rw [zero_mul]
  | top =>
    show (⊤ : EReal) = ⊤ * _
    rw [EReal.top_mul_coe_of_pos (Real.exp_pos _)]
  | coe r =>
    rw [← EReal.coe_sub, Finite.coe_exp, Finite.coe_exp, ← EReal.coe_mul, ← Real.exp_add, sub_eq_add_neg]

/-! ## The rows -/

/-- A head's hidden row: `relu (x @ w)`. -/
def hid (x : Fin 10000 → Fin 256 → EReal) (w : Fin 4 → Fin 256 → Fin 512 → EReal) (h : Fin 4) (n : Fin 10000) (j : Fin 512) : EReal :=
  max (∑ i : Fin 256, x n i * w h i j) 0

theorem hid_nonneg (x : Fin 10000 → Fin 256 → EReal) (w : Fin 4 → Fin 256 → Fin 512 → EReal) (h : Fin 4) (n : Fin 10000) (j : Fin 512) :
    0 ≤ hid x w h n j := le_max_right _ _

/-- A head's gate. -/
def gate (x : Fin 10000 → Fin 256 → EReal) (w : Fin 4 → Fin 256 → Fin 512 → EReal) (v : Fin 4 → Fin 512 → EReal) (h : Fin 4) (n : Fin 10000) : EReal :=
  ∑ j : Fin 512, hid x w h n j * v h j

/-! ## One head -/

variable {N J : ℕ} (P : Fin N → Prop) [DecidablePred P] (γ : Fin N → EReal) (u : Fin N → Fin J → EReal) (w : Fin J → EReal)

/-- The sum of a graph's exponentials. -/
def den : EReal := ∑ n : Fin N, if P n then Ideal.exp (γ n) else 0

theorem den_nonneg : 0 ≤ den P γ :=
  Finset.sum_nonneg fun n _ => by
    split
    · exact exp_nonneg _
    · exact le_refl _

/-- A graph's row with an infinite exponential makes the sum infinite. -/
theorem den_top (n : Fin N) (hn : P n) (h : Ideal.exp (γ n) = ⊤) : den P γ = ⊤ := by
  have hle : (if P n then Ideal.exp (γ n) else 0) ≤ den P γ :=
    Finset.single_le_sum (f := fun n => if P n then Ideal.exp (γ n) else 0) (fun k _ => by
      split
      · exact exp_nonneg _
      · exact le_refl _) (Finset.mem_univ n)
  rw [if_pos hn, h] at hle
  exact top_le_iff.1 hle

/-- The kernel's form of one head: the weighted sum of the hidden rows, divided, then through the second layer. -/
def pooled (ε : ℝ) : EReal :=
  ∑ j : Fin J, ((∑ n : Fin N, if P n then Ideal.exp (γ n) * u n j else 0) * Ideal.div 1 (den P γ + ε)) * w j

/-- The reference's sum of a graph's exponentials, each shifted by `s`. -/
def shiftedDen (s : ℝ) : EReal := ∑ n : Fin N, if P n then Ideal.exp (γ n - s) else 0

/-- The reference's form of one head: each row through the second layer, weighted by its share of the graph's shifted exponentials, then summed. -/
def shifted (ε s : ℝ) : EReal :=
  ∑ n : Fin N, if P n then Ideal.div (Ideal.exp (γ n - s)) (shiftedDen P γ s + ε * Ideal.exp (-(s : EReal))) * ∑ j : Fin J, u n j * w j else 0

/-- A shift scales the sum of the exponentials. -/
theorem shiftedDen_eq (s : ℝ) : shiftedDen P γ s = den P γ * (Real.exp (-s) : ℝ) := by
  unfold shiftedDen den
  rw [sum_mul _ _ fun n => by
    split
    · exact exp_nonneg _
    · exact le_refl _]
  refine Finset.sum_congr rfl fun n _ => ?_
  split
  · exact exp_sub _ _
  · rw [zero_mul]

/-- The denominator is positive. -/
theorem den_pos (ε : ℝ) (hε : 0 < ε) : 0 < den P γ + ε :=
  lt_of_lt_of_le (EReal.coe_pos.2 hε) (le_add_of_nonneg_left (den_nonneg P γ))

/-- The shift cancels in a row's share. -/
theorem share_eq (ε s : ℝ) (hε : 0 < ε) (x : EReal) :
    Ideal.div (Ideal.exp (x - s)) (shiftedDen P γ s + ε * Ideal.exp (-(s : EReal))) = Ideal.exp x * (den P γ + ε)⁻¹ := by
  have ht : (0 : EReal) < (Real.exp (-s) : ℝ) := EReal.coe_pos.2 (Real.exp_pos _)
  have ht1 : ((Real.exp (-s) : ℝ) : EReal) * ((Real.exp (-s) : ℝ) : EReal)⁻¹ = 1 := by
    rw [← EReal.coe_inv, ← EReal.coe_mul, mul_inv_cancel₀ (Real.exp_pos _).ne', EReal.coe_one]
  rw [shiftedDen_eq, exp_sub, ← EReal.coe_neg, Finite.coe_exp, ← EReal.right_distrib_of_nonneg (den_nonneg P γ) (EReal.coe_nonneg.2 hε.le)]
  unfold Ideal.div
  rw [if_neg (EReal.mul_pos (den_pos P γ ε hε) ht).ne', EReal.mul_inv, mul_mul_mul_comm, ht1, mul_one]

/-- The shift cancels, and the two sums exchange: both forms are equal. -/
theorem shifted_eq (ε s : ℝ) (hε : 0 < ε) (hu : ∀ n j, 0 ≤ u n j) : shifted P γ u w ε s = pooled P γ u w ε := by
  have hd := den_pos P γ ε hε
  have hdiv : Ideal.div 1 (den P γ + ε) = (den P γ + ε)⁻¹ := by
    unfold Ideal.div
    rw [if_neg hd.ne', one_mul]
  have hc0 : 0 ≤ (den P γ + ε)⁻¹ := EReal.inv_nonneg_of_nonneg hd.le
  have hct : (den P γ + ε)⁻¹ ≠ ⊤ := (EReal.inv_lt_top _).ne
  -- a row's share is finite
  have hshare : ∀ n, P n → Ideal.exp (γ n) * (den P γ + ε)⁻¹ ≠ ⊤ := fun n hn => by
    by_cases ht : Ideal.exp (γ n) = ⊤
    · rw [den_top P γ n hn ht, EReal.top_add_coe, EReal.inv_top, mul_zero]
      exact EReal.zero_ne_top
    · exact (EReal.mul_ne_top _ _).2 ⟨.inr hc0, .inl (exp_nonneg _), .inl ht, .inr hct⟩
  unfold shifted pooled
  simp only [share_eq P γ ε s hε, hdiv]
  have hk : ∀ j, ((∑ n : Fin N, if P n then Ideal.exp (γ n) * u n j else 0) * (den P γ + ε)⁻¹) * w j
      = ∑ n : Fin N, if P n then Ideal.exp (γ n) * (den P γ + ε)⁻¹ * (u n j * w j) else 0 := fun j => by
    rw [mul_assoc, sum_mul _ _ fun n => by
      split
      · exact mul_nonneg (exp_nonneg _) (hu n j)
      · exact le_refl _]
    refine Finset.sum_congr rfl fun n _ => ?_
    split
    · exact mul_mul_mul_comm _ _ _ _
    · rw [zero_mul]
  simp only [hk]
  rw [Finset.sum_comm]
  refine Finset.sum_congr rfl fun n _ => ?_
  by_cases hn : P n
  · simp only [if_pos hn]
    exact mul_sum _ _ _ (mul_nonneg (exp_nonneg _) hc0) (hshare n hn)
  · simp only [if_neg hn, Finset.sum_const_zero]

/-- A sum over the columns of all the heads is a sum over the heads of sums over their columns. -/
theorem sum_cols {M : Type} [AddCommMonoid M] (f : Fin 4 → Fin 512 → M) :
    ∑ p : Fin 2048, f ⟨p.val / 512, by omega⟩ ⟨p.val % 512, by omega⟩ = ∑ h : Fin 4, ∑ j : Fin 512, f h j := by
  rw [← Fintype.sum_prod_type']
  refine Fintype.sum_equiv (finProdFinEquiv (m := 4) (n := 512)).symm _ _ fun p => ?_
  rfl

end Cert.Attention

end
-- ==== Proof.KerForm.lean ====
/- The kernel's output as the mean over the heads of a form of one head. -/
module

public import proofs.«01_k».proof.Proof.Value
public import proofs.«01_k».proof.Proof.Finite
public import proofs.«01_k».proof.Proof.Attention

@[expose] public section

set_option maxRecDepth 65536

noncomputable section

namespace Cert.KernelIdeal.Pool

open Idealize.ShloMosaic Idealize.ShloMosaic.TcCoe Idealize.ShloMosaic.Tactic
open Idealize.SL Idealize.SL.Sem
open Cert.KernelIdeal.Gen

variable (m : (ℓ : Loc nD τ sig) → Buf (Elt Ideal) ℓ) (c : Dev nD)
/-- A row's indicator chooses between a number and zero. -/
theorem rInd_mul (g : Fin 256) (n : Fin 10000) (a : EReal) :
    rInd m c g n.val * a = if (aB m c (ix1 n) : BitVec 32) = BitVec.ofNat 32 g.val then a else 0 := by
  unfold rInd rB
  rw [dif_pos n.isLt]
  split
  · exact one_mul a
  · exact zero_mul a

theorem rX_form (n : Fin 10000) (i : Fin 256) : rX m c n.val i = aX m c (ix2 n i) := by
  unfold rX
  rw [dif_pos n.isLt]

theorem rU_form (h : Fin 4) (j : Fin 512) (n : Fin 10000) :
    rU m c h j n.val = Attention.hid (fun n i => aX m c (ix2 n i)) (fun h i j => aWh m c (ix3 h i j)) h n j := by
  unfold rU Attention.hid
  refine congrArg (fun a : EReal => max a 0) (Finset.sum_congr rfl fun i _ => ?_)
  rw [rX_form]

theorem rE_form (h : Fin 4) (n : Fin 10000) :
    rE m c h n.val = Ideal.exp (Attention.gate (fun n i => aX m c (ix2 n i)) (fun h i j => aWg m c (ix3 h i j)) (fun h j => aVg m c (ix3 h j 0)) h n) := by
  unfold rE Attention.gate Attention.hid
  refine congrArg Ideal.exp (Finset.sum_congr rfl fun j _ => ?_)
  refine congrArg (fun a : EReal => max a 0 * _) (Finset.sum_congr rfl fun i _ => ?_)
  rw [rX_form]

/-- What a head holds for graph `g` at column `o`. -/
def form (ε : ℝ) (g o : Fin 256) (h : Fin 4) : EReal :=
  Attention.pooled (fun n => (aB m c (ix1 n) : BitVec 32) = BitVec.ofNat 32 g.val)
    (Attention.gate (fun n i => aX m c (ix2 n i)) (fun h i j => aWg m c (ix3 h i j)) (fun h j => aVg m c (ix3 h j 0)) h)
    (Attention.hid (fun n i => aX m c (ix2 n i)) (fun h i j => aWh m c (ix3 h i j)) h) (fun j => aVh m c (ix3 h j o)) ε

/-- The kernel's output. -/
theorem bOut_form (ε : ℝ) (he : Ideal.ofBits .f32 0x24E69595#32 = (ε : EReal)) (g o : Fin 256) :
    (bOut m c (ix2 g o) : EReal) = (∑ h : Fin 4, form m c ε g o h) * ((1 / 4 : ℝ) : EReal) := by
  rw [bOut_apply, Finite.lit_quarter]
  refine congrArg (fun a : EReal => a * _) ?_
  simp only [rInd_mul, rE_form, rU_form, he]
  unfold form Attention.pooled Attention.den
  rw [← Attention.sum_cols]

end Cert.KernelIdeal.Pool

end
-- ==== Proof.Rows.lean ====
/- Scattering rows by addition, and gathering rows, at an index, at any extents. -/
module

public import Idealize.ShloMosaic.Lib.Routing.Ops
public import Idealize.ShloMosaic.Lib.Routing.OpsPair
public import Idealize.ShloMosaic.Lib.Pointwise
public import Idealize.ShloMosaic.Lib.Pointwise.IndexBridge
public import Idealize.ShloMosaic.PureOps.Ideal

@[expose] public section

noncomputable section

namespace Cert.Rows

open Idealize.ShloMosaic
open Idealize.ShloMosaic.Routing (shape2)

/-- Update `(k, y)` of a scatter of whole rows lands at `(r, c)` exactly when row `k`'s index word, read signed, is `r` and `y` is `c`. -/
theorem lands {R C n : ℕ} (d : ScatterDims (shape2 R C) (shape2 n 1) (shape2 n C)) (huw : d.updateWindowDims = [1])
    (hiw : d.insertedWindowDims = [0]) (hsd : d.scatterDimsToOperandDims = [0]) (hivd : d.indexVectorDim = 1)
    (idx : IVec (shape2 n 1) 32) (k : Fin n) (y : Fin C) (r : Fin R) (c : Fin C) :
    d.resultIdx? (ValueIdx.ix2 k y) idx = some (ValueIdx.ix2 r c) ↔ (idx (ValueIdx.ix2 k (0 : Fin 1))).toInt = (r.val : ℤ) ∧ y = c := by
  have hm : (0 : Fin 2) ∈ d.scatterDimsToOperandDims := by rw [hsd]; exact List.mem_singleton.2 rfl
  have hn : (1 : Fin 2) ∉ d.scatterDimsToOperandDims := by rw [hsd]; simp
  have hkept : (1 : Fin 2) ∈ d.sKept := List.mem_filter.2 ⟨List.mem_finRange _, by rw [hiw]; simp⟩
  -- an axis among the updates' scatter axes is the first, among their window axes the second
  have hs0 : ∀ a ∈ d.uScatter, a = (0 : Fin 2) := fun a ha => by
    have h' : a ∉ d.updateWindowDims := of_decide_eq_true (List.mem_filter.1 ha).2
    rw [huw] at h'
    have h1 : a.val ≠ 1 := fun e => h' (List.mem_singleton.2 (Fin.ext e))
    have h2 : a.val < 2 := a.isLt
    exact Fin.ext (by show a.val = 0; omega)
  have hw1 : ∀ a ∈ d.updateWindowDims, a = (1 : Fin 2) := fun a ha => by rw [huw] at ha; exact List.mem_singleton.1 ha
  have e0 : ∀ X : Fin 2, X = 0 → (ValueIdx.ix2 k y X).val = k.val := fun X h => by subst h; rfl
  have e1 : ∀ X : Fin 2, X = 1 → (ValueIdx.ix2 k y X).val = y.val := fun X h => by subst h; rfl
  have hwin0 : d.window (ValueIdx.ix2 k y) 0 = 0 := by
    unfold ScatterDims.window
    rw [dif_neg fun h => (of_decide_eq_true (List.mem_filter.1 h).2) (by rw [hiw]; exact List.mem_singleton.2 rfl)]
  have hwin1 : d.window (ValueIdx.ix2 k y) 1 = y.val := by
    unfold ScatterDims.window
    rw [dif_pos hkept]
    exact e1 _ (hw1 _ (List.getElem_mem _))
  have hst1 : d.start (ValueIdx.ix2 k y) idx 1 = 0 := by
    unfold ScatterDims.start
    rw [dif_neg hn]
  have hst0 : d.start (ValueIdx.ix2 k y) idx 0 = (idx (ValueIdx.ix2 k (0 : Fin 1))).toInt := by
    unfold ScatterDims.start
    rw [dif_pos hm]
    have hsi : d.siIdx (ValueIdx.ix2 k y) ⟨d.scatterDimsToOperandDims.idxOf 0, List.idxOf_lt_length_iff.2 hm⟩ = ValueIdx.ix2 k (0 : Fin 1) := by
      funext b
      apply Fin.ext
      match b with
      | ⟨0, _⟩ =>
        unfold ScatterDims.siIdx
        rw [dif_neg (by rw [hivd]; exact Nat.zero_ne_one)]
        unfold ScatterDims.siCoord
        simp only [Fin.val_cast]
        exact e0 _ (hs0 _ (List.getElem_mem _))
      | ⟨1, _⟩ =>
        unfold ScatterDims.siIdx
        rw [dif_pos (by rw [hivd])]
        show List.idxOf (0 : Fin 2) d.scatterDimsToOperandDims = 0
        rw [hsd]; simp
    rw [hsi]
  rw [Routing.resultIdx?_ix2, hst0, hst1, hwin0, hwin1]
  constructor
  · rintro ⟨h0, h1⟩
    exact ⟨by omega, Fin.ext (by omega)⟩
  · rintro ⟨h0, h1⟩
    subst h1
    exact ⟨by omega, by omega⟩

/-- Scattering rows by addition: entry `(r, c)` of the result is the operand's plus the sum of the rows' entries `c` over the rows whose index word,
    read signed, is `r`. -/
theorem scatterAdd_apply {R C n : ℕ} (d : ScatterDims (shape2 R C) (shape2 n 1) (shape2 n C)) (huw : d.updateWindowDims = [1])
    (hiw : d.insertedWindowDims = [0]) (hsd : d.scatterDimsToOperandDims = [0]) (hivd : d.indexVectorDim = 1)
    (x : FVec Ideal (shape2 R C) .f32) (idx : IVec (shape2 n 1) 32) (upd : FVec Ideal (shape2 n C) .f32) (r : Fin R) (c : Fin C) :
    (Host.scatterAdd d x idx upd (ix2 r c) : EReal)
      = x (ix2 r c) + ∑ k : Fin n, if (idx (ix2 k (0 : Fin 1))).toInt = (r.val : ℤ) then (upd (ix2 k c) : EReal) else 0 := by
  show (x (ix2 r c) + ∑ j ∈ Finset.univ.filter (fun j => d.resultIdx? j idx = some (ix2 r c)), upd j : EReal) = _
  refine congrArg (fun a : EReal => x (ix2 r c) + a) ?_
  have split : ∀ j : (shape2 n C).Idx, d.resultIdx? j idx = some (ix2 r c) →
      ∃ k : Fin n, j = ix2 k c ∧ (idx (ix2 k (0 : Fin 1))).toInt = (r.val : ℤ) := by
    intro j h
    obtain ⟨k, y, rfl⟩ : ∃ (k : Fin n) (y : Fin C), j = ValueIdx.ix2 k y :=
      ⟨j 0, j 1, funext fun a => match a with | ⟨0, _⟩ => rfl | ⟨1, _⟩ => rfl⟩
    rw [ix2_eq_valueIdx] at h
    obtain ⟨h0, rfl⟩ := (lands d huw hiw hsd hivd idx k y r c).1 h
    exact ⟨k, (ix2_eq_valueIdx k y).symm, by rw [ix2_eq_valueIdx]; exact h0⟩
  rw [← Finset.sum_filter]
  refine Finset.sum_bij' (fun j _ => j 0) (fun k _ => ix2 k c) ?_ ?_ ?_ ?_ ?_
  · intro j hj
    obtain ⟨k, rfl, h⟩ := split j (Finset.mem_filter.1 hj).2
    exact Finset.mem_filter.2 ⟨Finset.mem_univ _, h⟩
  · intro k hk
    have h := (Finset.mem_filter.1 hk).2
    rw [ix2_eq_valueIdx] at h
    refine Finset.mem_filter.2 ⟨Finset.mem_univ _, ?_⟩
    rw [ix2_eq_valueIdx, ix2_eq_valueIdx]
    exact (lands d huw hiw hsd hivd idx k c r c).2 ⟨h, rfl⟩
  · intro j hj
    obtain ⟨k, rfl, h⟩ := split j (Finset.mem_filter.1 hj).2
    rfl
  · intro k hk
    rfl
  · intro j hj
    obtain ⟨k, rfl, h⟩ := split j (Finset.mem_filter.1 hj).2
    rfl

/-- Gathering rows: where row `c`'s index word is the row number `b`, the result's row `c` is the table's row `b`. -/
theorem gather_apply {α : Type} {nb B n : ℕ} (d : GatherDims (shape2 nb B) (shape2 n 1) (shape2 n B)) (hoff : d.offsetDims = [1])
    (hcoll : d.collapsedSliceDims = [0]) (hob : d.operandBatchingDims = []) (hsim : d.startIndexMap = [0]) (hivd : d.indexVectorDim = 1)
    (x : (shape2 nb B).Idx → α) (idx : IVec (shape2 n 1) 32) (c : Fin n) (y : Fin B) (b : Fin nb)
    (hb : idx (ix2 c (0 : Fin 1)) = BitVec.ofNat 32 b.val) (hnb : nb < 2 ^ 31) : Host.gather d x idx (ix2 c y) = x (ix2 b y) := by
  rw [ix2_eq_valueIdx, ix2_eq_valueIdx]
  rw [ix2_eq_valueIdx] at hb
  exact Routing.gather_row d hoff hcoll hob hsim hivd x idx c y b hb hnb

end Cert.Rows

end
-- ==== Proof.RefHead.lean ====
/- One head of the reference, over weights already sliced, and what it computes over the extended reals. -/
module

public import proofs.«01_k».proof.Proof.Gen.ReferenceIdeal
public import proofs.«01_k».proof.Proof.Rows
public import proofs.«01_k».proof.Proof.Finite
public import Idealize.ShloMosaic.Lib.Pointwise

@[expose] public section

set_option maxRecDepth 65536

noncomputable section

namespace Cert.ReferenceIdeal.Head

open Idealize.ShloMosaic Idealize.ShloMosaic.TcCoe Idealize.ShloMosaic.Tactic
open Cert.ReferenceIdeal Cert.ReferenceIdeal.Gen

section Terms

variable {F : FTy → Type} [FloatOps F]

/-- The hidden rows: `relu (x @ w + b)`. -/
def hid (x : Vec F S10000x256 .f32) (w : Vec F S256x512 .f32) (b : Vec F S512 .f32) : Vec F S10000x512 .f32 :=
  maximumf (addf (Host.dotGeneral dot_S10000x256_S256x512_S10000x512_1_0_0_1_n_n none x w) (broadcastInDim S10000x512 ![0, 1] bcast_S1x512_S10000x512_0_1 (broadcastInDim S1x512 ![1] bcast_S512_S1x512_1 b))) (broadcastInDim S10000x512 ![] bcast_S_S10000x512 (constant S_ .f32 0x00000000#32))

/-- The gates: the hidden rows through the gate's second layer. -/
def gate (u : Vec F S10000x512 .f32) (v : Vec F S512x1 .f32) (b : Vec F S1 .f32) : Vec F S10000x1 .f32 :=
  addf (Host.dotGeneral dot_S10000x512_S512x1_S10000x1_1_0_0_1_n_n none u v) (broadcastInDim S10000x1 ![0, 1] bcast_S1x1_S10000x1_0_1 (broadcastInDim S1x1 ![1] bcast_S1_S1x1_1 b))

/-- The rows to pool: the hidden rows through the other network's second layer. -/
def outs (u : Vec F S10000x512 .f32) (v : Vec F S512x256 .f32) (b : Vec F S256 .f32) : Vec F S10000x256 .f32 :=
  addf (Host.dotGeneral dot_S10000x512_S512x256_S10000x256_1_0_0_1_n_n none u v) (broadcastInDim S10000x256 ![0, 1] bcast_S1x256_S10000x256_0_1 (broadcastInDim S1x256 ![1] bcast_S256_S1x256_1 b))

/-- Each graph's greatest gate, `-inf` where a graph has no row. -/
def top (bt : Vec F S10000 .i32) (gt : Vec F S10000x1 .f32) : Vec F S256x1 .f32 :=
  broadcastInDim S256x1 ![0] bcast_S256_S256x1_0 (Host.reduce FloatOps.maximumf (select (cmpi .eq (broadcastInDim S10000x256 ![0, 1] bcast_S10000x1_S10000x256_0_1 (broadcastInDim S10000x1 ![0] bcast_S10000_S10000x1_0 bt)) (broadcastInDim S10000x256 ![0, 1] bcast_S1x256_S10000x256_0_1 (broadcastInDim S1x256 ![1] bcast_S256_S1x256_1 (iotaInDim S256 32 0)))) (broadcastInDim S10000x256 ![0, 1] bcast_S10000x1_S10000x256_0_1 gt) (broadcastInDim S10000x256 ![] bcast_S_S10000x256 (id (constant S_ .f32 0xFF800000#32)))) (constant S_ .f32 0xFF800000#32) reducesTo_S10000x256_S256_d0 h_S_)

/-- The shift: the greatest gate where it is finite, `0` elsewhere. -/
def shift (mx : Vec F S256x1 .f32) : Vec F S256x1 .f32 :=
  select (cmpf .olt (Host.absf mx) (broadcastInDim S256x1 ![] bcast_S_S256x1 (constant S_ .f32 0x7F800000#32))) mx (broadcastInDim S256x1 ![] bcast_S_S256x1 (id (constant S_ .f32 0x00000000#32)))

/-- The rows' graph numbers as a gather takes them. -/
def wrapped (bt : Vec F S10000 .i32) : Vec F S10000x1 .i32 :=
  broadcastInDim S10000x1 ![0] bcast_S10000_S10000x1_0 (select (cmpi .slt bt (broadcastInDim S10000 ![] bcast_S_S10000 (constantI S_ 32 0#32))) (addi bt (broadcastInDim S10000 ![] bcast_S_S10000 (constantI S_ 32 256#32))) bt)

/-- The shifted gates' exponentials. -/
def expo (bt : Vec F S10000 .i32) (gt : Vec F S10000x1 .f32) (sh : Vec F S256x1 .f32) : Vec F S10000x1 .f32 :=
  Host.exp (subf gt (Host.gather gather_S256x1_S10000x1_S10000x1_1_0_n_n_0_1_11 sh (wrapped (F := F) bt)))

/-- The head: the rows weighted by their exponentials' share of the graph's, summed over each graph. -/
def pool (bt : Vec F S10000 .i32) (e : Vec F S10000x1 .f32) (sh : Vec F S256x1 .f32) (o : Vec F S10000x256 .f32) : Vec F S256x256 .f32 :=
  Host.scatterAdd scatter_S256x256_S10000x1_S10000x256_1_0_0_1 (broadcastInDim S256x256 ![] bcast_S_S256x256 (constant S_ .f32 0x00000000#32)) (broadcastInDim S10000x1 ![0] bcast_S10000_S10000x1_0 bt) (mulf (broadcastInDim S10000x256 ![0, 1] bcast_S10000x1_S10000x256_0_1 (Host.divf e (addf (Host.gather gather_S256x1_S10000x1_S10000x1_1_0_n_n_0_1_11 (Host.scatterAdd scatter_S256x1_S10000x1_S10000x1_1_0_0_1 (broadcastInDim S256x1 ![] bcast_S_S256x1 (constant S_ .f32 0x00000000#32)) (broadcastInDim S10000x1 ![0] bcast_S10000_S10000x1_0 bt) e) (wrapped (F := F) bt)) (mulf (broadcastInDim S10000x1 ![] bcast_S_S10000x1 (constant S_ .f32 0x24E69595#32)) (Host.gather gather_S256x1_S10000x1_S10000x1_1_0_n_n_0_1_11 (Host.exp (Host.negf sh)) (wrapped (F := F) bt)))))) o)

/-- All of it. -/
def head (x : Vec F S10000x256 .f32) (bt : Vec F S10000 .i32) (wg : Vec F S256x512 .f32) (bg : Vec F S512 .f32) (vg : Vec F S512x1 .f32)
    (cg : Vec F S1 .f32) (wh : Vec F S256x512 .f32) (bh : Vec F S512 .f32) (vh : Vec F S512x256 .f32) (ch : Vec F S256 .f32) : Vec F S256x256 .f32 :=
  pool bt (expo bt (gate (hid x wg bg) vg cg) (shift (top bt (gate (hid x wg bg) vg cg)))) (shift (top bt (gate (hid x wg bg) vg cg)))
    (outs (hid x wh bh) vh ch)

end Terms

/-! ## At an index -/

theorem hid_apply (x : Vec Ideal S10000x256 .f32) (w : Vec Ideal S256x512 .f32) (b : Vec Ideal S512 .f32) (n : Fin 10000) (j : Fin 512) :
    (hid x w b (ix2 n j) : EReal) = max ((∑ i : Fin 256, x (ix2 n i) * w (ix2 i j)) + b (ix1 j)) 0 := by
  unfold hid
  pointwise

theorem gate_apply (u : Vec Ideal S10000x512 .f32) (v : Vec Ideal S512x1 .f32) (b : Vec Ideal S1 .f32) (n : Fin 10000) :
    (gate u v b (ix2 n 0) : EReal) = (∑ j : Fin 512, u (ix2 n j) * v (ix2 j 0)) + b (ix1 0) := by
  unfold gate
  pointwise

theorem outs_apply (u : Vec Ideal S10000x512 .f32) (v : Vec Ideal S512x256 .f32) (b : Vec Ideal S256 .f32) (n : Fin 10000) (o : Fin 256) :
    (outs u v b (ix2 n o) : EReal) = (∑ j : Fin 512, u (ix2 n j) * v (ix2 j o)) + b (ix1 o) := by
  unfold outs
  pointwise

/-- The shift is a real number, whatever the greatest gate is. -/
theorem shift_real (mx : Vec Ideal S256x1 .f32) (g : Fin 256) : ∃ r : ℝ, (shift mx (ix2 g 0) : EReal) = (r : EReal) := by
  unfold shift
  pointwise
  show ∃ r : ℝ, (if max (mx (ix2 g 0)) (-(mx (ix2 g 0))) < Ideal.ofBits .f32 0x7F800000#32 then (mx (ix2 g 0) : EReal) else Ideal.ofBits .f32 0x00000000#32) = r
  rw [Finite.lit_inf, Ideal.ofBits_zero_f32]
  split
  · next h => exact ⟨_, (Finite.coe_of_abs h).symm⟩
  · exact ⟨0, rfl⟩

theorem wrapped_apply (bt : Vec Ideal S10000 .i32) (n : Fin 10000) (g : Fin 256) (h : bt (ix1 n) = BitVec.ofNat 32 g.val) :
    (wrapped (F := Ideal) bt (ix2 n 0) : BitVec 32) = BitVec.ofNat 32 g.val := by
  unfold wrapped
  pointwise
  rw [h]
  refine Routing.wrap_of_lt (BitVec.ofNat 32 g.val) _ ?_
  rw [BitVec.toNat_ofNat]
  omega

/-- A word read signed is a number below 256 exactly when it is that number's word. -/
theorem toInt_eq (b : BitVec 32) (g : Fin 256) : b.toInt = (g.val : ℤ) ↔ b = BitVec.ofNat 32 g.val := by
  constructor
  · intro h
    have h' := congrArg (BitVec.ofInt 32) h
    rw [BitVec.ofInt_toInt, BitVec.ofInt_natCast] at h'
    exact h'
  · intro h
    rw [h, StableHlo.Predicate.toInt_ofNat_small _ (by omega)]

theorem expo_apply (bt : Vec Ideal S10000 .i32) (gt : Vec Ideal S10000x1 .f32) (sh : Vec Ideal S256x1 .f32) (n : Fin 10000) (g : Fin 256)
    (h : bt (ix1 n) = BitVec.ofNat 32 g.val) : (expo bt gt sh (ix2 n 0) : EReal) = Ideal.exp (gt (ix2 n 0) - sh (ix2 g 0)) := by
  show Ideal.exp (gt (ix2 n 0) - Host.gather gather_S256x1_S10000x1_S10000x1_1_0_n_n_0_1_11 sh (wrapped (F := Ideal) bt) (ix2 n 0)) = _
  rw [Rows.gather_apply gather_S256x1_S10000x1_S10000x1_1_0_n_n_0_1_11 rfl rfl rfl rfl rfl sh _ n 0 g (wrapped_apply bt n g h) (by omega)]

theorem idx_apply (bt : Vec Ideal S10000 .i32) (n : Fin 10000) :
    (broadcastInDim S10000x1 ![0] bcast_S10000_S10000x1_0 bt (ix2 n 0) : BitVec 32) = bt (ix1 n) := by
  pointwise

/-- The sum of a graph's rows. -/
def rowsOf (bt : Vec Ideal S10000 .i32) (g : Fin 256) (f : Fin 10000 → EReal) : EReal :=
  ∑ n : Fin 10000, if bt (ix1 n) = BitVec.ofNat 32 g.val then f n else 0

theorem den_apply (bt : Vec Ideal S10000 .i32) (e : Vec Ideal S10000x1 .f32) (g : Fin 256) :
    (Host.scatterAdd scatter_S256x1_S10000x1_S10000x1_1_0_0_1 (broadcastInDim S256x1 ![] bcast_S_S256x1 (constant (F := Ideal) S_ .f32 0x00000000#32)) (broadcastInDim S10000x1 ![0] bcast_S10000_S10000x1_0 bt) e (ix2 g 0) : EReal)
      = rowsOf bt g fun n => e (ix2 n 0) := by
  refine (Rows.scatterAdd_apply scatter_S256x1_S10000x1_S10000x1_1_0_0_1 rfl rfl rfl rfl _ _ e g 0).trans ?_
  have h0 : (broadcastInDim S256x1 ![] bcast_S_S256x1 (constant (F := Ideal) S_ .f32 0x00000000#32) (ix2 g 0) : EReal) = 0 := by pointwise
  rw [h0, zero_add]
  refine Finset.sum_congr rfl fun n _ => ?_
  rw [idx_apply]
  simp only [toInt_eq]

theorem pool_apply (bt : Vec Ideal S10000 .i32) (e : Vec Ideal S10000x1 .f32) (sh : Vec Ideal S256x1 .f32) (o : Vec Ideal S10000x256 .f32)
    (g y : Fin 256) :
    (pool bt e sh o (ix2 g y) : EReal)
      = rowsOf bt g fun n => Ideal.div (e (ix2 n 0)) ((rowsOf bt g fun n' => e (ix2 n' 0)) + Ideal.ofBits .f32 0x24E69595#32 * Ideal.exp (-(sh (ix2 g 0)))) * o (ix2 n y) := by
  refine (Rows.scatterAdd_apply scatter_S256x256_S10000x1_S10000x256_1_0_0_1 rfl rfl rfl rfl _ _ _ g y).trans ?_
  have h0 : (broadcastInDim S256x256 ![] bcast_S_S256x256 (constant (F := Ideal) S_ .f32 0x00000000#32) (ix2 g y) : EReal) = 0 := by pointwise
  rw [h0, zero_add]
  refine Finset.sum_congr rfl fun n _ => ?_
  rw [idx_apply]
  simp only [toInt_eq]
  by_cases h : bt (ix1 n) = BitVec.ofNat 32 g.val
  · rw [if_pos h, if_pos h]
    have g1 := Rows.gather_apply gather_S256x1_S10000x1_S10000x1_1_0_n_n_0_1_11 rfl rfl rfl rfl rfl (Host.exp (F := Ideal) (s := S256x1) (φ := .f32) (Host.negf sh)) _ n 0 g (wrapped_apply bt n g h) (by omega)
    have g2 := Rows.gather_apply gather_S256x1_S10000x1_S10000x1_1_0_n_n_0_1_11 rfl rfl rfl rfl rfl
      (Host.scatterAdd scatter_S256x1_S10000x1_S10000x1_1_0_0_1 (broadcastInDim S256x1 ![] bcast_S_S256x1 (constant (F := Ideal) S_ .f32 0x00000000#32)) (broadcastInDim S10000x1 ![0] bcast_S10000_S10000x1_0 bt) e)
      _ n 0 g (wrapped_apply bt n g h) (by omega)
    rw [den_apply] at g2
    pointwise [g1, g2]
  · rw [if_neg h, if_neg h]

end Cert.ReferenceIdeal.Head

end
-- ==== Proof.RefRun.lean ====
/- The reference's result, head by head. -/
module

public import proofs.«01_k».proof.Proof.Gen.ReferenceIdeal.Run
public import proofs.«01_k».proof.Proof.RefHead

@[expose] public section

set_option maxRecDepth 65536

noncomputable section

namespace Cert.ReferenceIdeal.Head

open Idealize.ShloMosaic Idealize.ShloMosaic.TcCoe Idealize.SL.Sem
open Cert.ReferenceIdeal Cert.ReferenceIdeal.Gen

variable {F : FTy → Type} [FloatOps F]

/-! ## A head's weights, sliced out of all the heads' -/

def w3 (h : ℕ) (W : Vec F S4x256x512 .f32) (hs : S4x256x512.Slices ![h, 0, 0] S1x256x512) : Vec F S256x512 .f32 :=
  shapeCast _ (extractStridedSlice S1x256x512 ![h, 0, 0] W hs) shapeCasts_S1x256x512_S256x512
def b2 (h : ℕ) (W : Vec F S4x512 .f32) (hs : S4x512.Slices ![h, 0] S1x512) : Vec F S512 .f32 :=
  shapeCast _ (extractStridedSlice S1x512 ![h, 0] W hs) shapeCasts_S1x512_S512
def v3 (h : ℕ) (W : Vec F S4x512x1 .f32) (hs : S4x512x1.Slices ![h, 0, 0] S1x512x1) : Vec F S512x1 .f32 :=
  shapeCast _ (extractStridedSlice S1x512x1 ![h, 0, 0] W hs) shapeCasts_S1x512x1_S512x1
def c2 (h : ℕ) (W : Vec F S4x1 .f32) (hs : S4x1.Slices ![h, 0] S1x1) : Vec F S1 .f32 :=
  shapeCast _ (extractStridedSlice S1x1 ![h, 0] W hs) shapeCasts_S1x1_S1
def o3 (h : ℕ) (W : Vec F S4x512x256 .f32) (hs : S4x512x256.Slices ![h, 0, 0] S1x512x256) : Vec F S512x256 .f32 :=
  shapeCast _ (extractStridedSlice S1x512x256 ![h, 0, 0] W hs) shapeCasts_S1x512x256_S512x256
def d2 (h : ℕ) (W : Vec F S4x256 .f32) (hs : S4x256.Slices ![h, 0] S1x256) : Vec F S256 .f32 :=
  shapeCast _ (extractStridedSlice S1x256 ![h, 0] W hs) shapeCasts_S1x256_S256

/-- What slicing out head `h` needs. -/
structure SliceFacts (h : ℕ) : Prop where
  w : S4x256x512.Slices ![h, 0, 0] S1x256x512
  b : S4x512.Slices ![h, 0] S1x512
  v : S4x512x1.Slices ![h, 0, 0] S1x512x1
  c : S4x1.Slices ![h, 0] S1x1
  o : S4x512x256.Slices ![h, 0, 0] S1x512x256
  d : S4x256.Slices ![h, 0] S1x256

theorem slices0 : SliceFacts 0 := ⟨slices_S4x256x512_S1x256x512_0_0_0, slices_S4x512_S1x512_0_0, slices_S4x512x1_S1x512x1_0_0_0, slices_S4x1_S1x1_0_0, slices_S4x512x256_S1x512x256_0_0_0, slices_S4x256_S1x256_0_0⟩
theorem slices1 : SliceFacts 1 := ⟨slices_S4x256x512_S1x256x512_1_0_0, slices_S4x512_S1x512_1_0, slices_S4x512x1_S1x512x1_1_0_0, slices_S4x1_S1x1_1_0, slices_S4x512x256_S1x512x256_1_0_0, slices_S4x256_S1x256_1_0⟩
theorem slices2 : SliceFacts 2 := ⟨slices_S4x256x512_S1x256x512_2_0_0, slices_S4x512_S1x512_2_0, slices_S4x512x1_S1x512x1_2_0_0, slices_S4x1_S1x1_2_0, slices_S4x512x256_S1x512x256_2_0_0, slices_S4x256_S1x256_2_0⟩
theorem slices3 : SliceFacts 3 := ⟨slices_S4x256x512_S1x256x512_3_0_0, slices_S4x512_S1x512_3_0, slices_S4x512x1_S1x512x1_3_0_0, slices_S4x1_S1x1_3_0, slices_S4x512x256_S1x512x256_3_0_0, slices_S4x256_S1x256_3_0⟩

/-- Head `h` over all the heads' weights. -/
def headAt (h : ℕ) (hs : SliceFacts h) (x : Vec F S10000x256 .f32) (bt : Vec F S10000 .i32) (wg : Vec F S4x256x512 .f32) (bg : Vec F S4x512 .f32)
    (vg : Vec F S4x512x1 .f32) (cg : Vec F S4x1 .f32) (wh : Vec F S4x256x512 .f32) (bh : Vec F S4x512 .f32) (vh : Vec F S4x512x256 .f32)
    (ch : Vec F S4x256 .f32) : Vec F S256x256 .f32 :=
  head x bt (w3 h wg hs.w) (b2 h bg hs.b) (v3 h vg hs.v) (c2 h cg hs.c) (w3 h wh hs.w) (b2 h bh hs.b) (o3 h vh hs.o) (d2 h ch hs.d)

/-- The reference's sum of the heads. -/
theorem sum_heads (V : Valuation τ sig (Elt F)) :
    Value.res_main_v348 V = addf (addf (addf (addf (broadcastInDim S256x256 ![] bcast_S_S256x256 (constant S_ .f32 0x00000000#32)) (headAt 0 slices0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)))) (headAt 1 slices1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)))) (headAt 2 slices2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)))) (headAt 3 slices3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) := by
  rfl

end Cert.ReferenceIdeal.Head

end
-- ==== Proof.RefValue.lean ====
/- The reference's result over the extended reals. -/
module

public import proofs.«01_k».proof.Proof.RefRun

@[expose] public section

set_option maxRecDepth 65536

noncomputable section

namespace Cert.ReferenceIdeal.Head

open Idealize.ShloMosaic Idealize.ShloMosaic.TcCoe Idealize.ShloMosaic.Tactic
open Cert.ReferenceIdeal Cert.ReferenceIdeal.Gen

theorem w3_apply (h : Fin 4) (W : Vec Ideal S4x256x512 .f32) (hs : S4x256x512.Slices ![h.val, 0, 0] S1x256x512) (i : Fin 256) (j : Fin 512) :
    (w3 h.val W hs (ix2 i j) : EReal) = W (ix3 h i j) := by
  unfold w3
  pointwise
theorem b2_apply (h : Fin 4) (W : Vec Ideal S4x512 .f32) (hs : S4x512.Slices ![h.val, 0] S1x512) (j : Fin 512) :
    (b2 h.val W hs (ix1 j) : EReal) = W (ix2 h j) := by
  unfold b2
  pointwise
theorem v3_apply (h : Fin 4) (W : Vec Ideal S4x512x1 .f32) (hs : S4x512x1.Slices ![h.val, 0, 0] S1x512x1) (j : Fin 512) :
    (v3 h.val W hs (ix2 j 0) : EReal) = W (ix3 h j 0) := by
  unfold v3
  pointwise
theorem c2_apply (h : Fin 4) (W : Vec Ideal S4x1 .f32) (hs : S4x1.Slices ![h.val, 0] S1x1) :
    (c2 h.val W hs (ix1 0) : EReal) = W (ix2 h 0) := by
  unfold c2
  pointwise
theorem o3_apply (h : Fin 4) (W : Vec Ideal S4x512x256 .f32) (hs : S4x512x256.Slices ![h.val, 0, 0] S1x512x256) (j : Fin 512) (o : Fin 256) :
    (o3 h.val W hs (ix2 j o) : EReal) = W (ix3 h j o) := by
  unfold o3
  pointwise
theorem d2_apply (h : Fin 4) (W : Vec Ideal S4x256 .f32) (hs : S4x256.Slices ![h.val, 0] S1x256) (o : Fin 256) :
    (d2 h.val W hs (ix1 o) : EReal) = W (ix2 h o) := by
  unfold d2
  pointwise

end Cert.ReferenceIdeal.Head

end
-- ==== Proof.RefForm.lean ====
/- The reference's result where its biases are zero: the mean over the heads of the kernel's form of a head. -/
module

public import proofs.«01_k».proof.Proof.RefValue
public import proofs.«01_k».proof.Proof.Attention

@[expose] public section

set_option maxRecDepth 65536

noncomputable section

namespace Cert.ReferenceIdeal.Head

open Idealize.ShloMosaic Idealize.ShloMosaic.TcCoe Idealize.ShloMosaic.Tactic
open Cert.ReferenceIdeal Cert.ReferenceIdeal.Gen

/-- Sums over a graph's rows agree where their terms do on those rows. -/
theorem rowsOf_congr (bt : Vec Ideal S10000 .i32) (g : Fin 256) (f f' : Fin 10000 → EReal)
    (h : ∀ n, bt (ix1 n) = BitVec.ofNat 32 g.val → f n = f' n) : rowsOf bt g f = rowsOf bt g f' := by
  refine Finset.sum_congr rfl fun n _ => ?_
  by_cases hn : bt (ix1 n) = BitVec.ofNat 32 g.val
  · rw [if_pos hn, if_pos hn, h n hn]
  · rw [if_neg hn, if_neg hn]

/-- A hidden row without a bias. -/
theorem hid_form (x : Vec Ideal S10000x256 .f32) (w : Vec Ideal S256x512 .f32) (b : Vec Ideal S512 .f32)
    (wr : Fin 4 → Fin 256 → Fin 512 → EReal) (h : Fin 4) (hw : ∀ i j, (w (ix2 i j) : EReal) = wr h i j) (hb : ∀ j, (b (ix1 j) : EReal) = 0)
    (n : Fin 10000) (j : Fin 512) : (hid x w b (ix2 n j) : EReal) = Attention.hid (fun n i => x (ix2 n i)) wr h n j := by
  rw [hid_apply, hb, add_zero]
  unfold Attention.hid
  refine congrArg (fun a : EReal => max a 0) (Finset.sum_congr rfl fun i _ => ?_)
  rw [hw]

variable (x : Vec Ideal S10000x256 .f32) (bt : Vec Ideal S10000 .i32) (wg : Vec Ideal S4x256x512 .f32) (bg : Vec Ideal S4x512 .f32)
    (vg : Vec Ideal S4x512x1 .f32) (cg : Vec Ideal S4x1 .f32) (wh : Vec Ideal S4x256x512 .f32) (bh : Vec Ideal S4x512 .f32)
    (vh : Vec Ideal S4x512x256 .f32) (ch : Vec Ideal S4x256 .f32)

/-- The biases are zero. -/
structure NoBias : Prop where
  bg : ∀ h j, (bg (ix2 h j) : EReal) = 0
  cg : ∀ h, (cg (ix2 h 0) : EReal) = 0
  bh : ∀ h j, (bh (ix2 h j) : EReal) = 0
  ch : ∀ h o, (ch (ix2 h o) : EReal) = 0

/-- What a head should hold for graph `g` at column `o`. -/
def form (ε : ℝ) (g o : Fin 256) (h : Fin 4) : EReal :=
  Attention.pooled (fun n => (bt (ix1 n) : BitVec 32) = BitVec.ofNat 32 g.val)
    (Attention.gate (fun n i => x (ix2 n i)) (fun h i j => wg (ix3 h i j)) (fun h j => vg (ix3 h j 0)) h)
    (Attention.hid (fun n i => x (ix2 n i)) (fun h i j => wh (ix3 h i j)) h) (fun j => vh (ix3 h j o)) ε

/-- One head of the reference. -/
theorem headAt_form (A : NoBias bg cg bh ch) (ε : ℝ) (hε : 0 < ε) (he : Ideal.ofBits .f32 0x24E69595#32 = (ε : EReal)) (h : Fin 4)
    (hs : SliceFacts h.val) (g o : Fin 256) :
    (headAt h.val hs x bt wg bg vg cg wh bh vh ch (ix2 g o) : EReal) = form x bt wg vg wh vh ε g o h := by
  unfold headAt head form
  generalize hG : gate (hid x (w3 h.val wg hs.w) (b2 h.val bg hs.b)) (v3 h.val vg hs.v) (c2 h.val cg hs.c) = G
  have eG : ∀ n, (G (ix2 n 0) : EReal)
      = Attention.gate (fun n i => x (ix2 n i)) (fun h i j => wg (ix3 h i j)) (fun h j => vg (ix3 h j 0)) h n := fun n => by
    rw [← hG, gate_apply, c2_apply, A.cg, add_zero]
    unfold Attention.gate
    refine Finset.sum_congr rfl fun j _ => ?_
    rw [hid_form _ _ _ (fun h i j => wg (ix3 h i j)) h (fun i j => w3_apply h _ _ i j) (fun j => (b2_apply h _ _ j).trans (A.bg h j)), v3_apply]
  have eO : ∀ n, (outs (hid x (w3 h.val wh hs.w) (b2 h.val bh hs.b)) (o3 h.val vh hs.o) (d2 h.val ch hs.d) (ix2 n o) : EReal)
      = ∑ j : Fin 512, Attention.hid (fun n i => x (ix2 n i)) (fun h i j => wh (ix3 h i j)) h n j * vh (ix3 h j o) := fun n => by
    rw [outs_apply, d2_apply, A.ch, add_zero]
    refine Finset.sum_congr rfl fun j _ => ?_
    rw [hid_form _ _ _ (fun h i j => wh (ix3 h i j)) h (fun i j => w3_apply h _ _ i j) (fun j => (b2_apply h _ _ j).trans (A.bh h j)), o3_apply]
  generalize outs (hid x (w3 h.val wh hs.w) (b2 h.val bh hs.b)) (o3 h.val vh hs.o) (d2 h.val ch hs.d) = O at eO ⊢
  generalize Attention.gate (fun n i => x (ix2 n i)) (fun h i j => wg (ix3 h i j)) (fun h j => vg (ix3 h j 0)) h = γ at eG ⊢
  have hu := Attention.hid_nonneg (fun n i => x (ix2 n i)) (fun h i j => wh (ix3 h i j)) h
  generalize Attention.hid (fun n i => x (ix2 n i)) (fun h i j => wh (ix3 h i j)) h = u at eO hu ⊢
  generalize bt = B
  obtain ⟨s, hsr⟩ := shift_real (top (F := Ideal) B G) g
  generalize shift (top (F := Ideal) B G) = sh at hsr ⊢
  have eE : ∀ n, B (ix1 n) = BitVec.ofNat 32 g.val → (expo B G sh (ix2 n 0) : EReal) = Ideal.exp (γ n - s) := fun n hn => by
    rw [expo_apply B G sh n g hn, eG, hsr]
  rw [pool_apply, hsr, he, rowsOf_congr B g (fun n' => expo B G sh (ix2 n' 0)) (fun n' => Ideal.exp (γ n' - s)) eE]
  refine (rowsOf_congr B g _ (fun n => Ideal.div (Ideal.exp (γ n - s)) (rowsOf B g (fun n' => Ideal.exp (γ n' - s)) + ε * Ideal.exp (-(s : EReal)))
    * ∑ j : Fin 512, u n j * vh (ix3 h j o)) fun n hn => ?_).trans ?_
  · rw [eE n hn, eO]
  · exact Attention.shifted_eq _ _ _ _ ε s hε hu

/-- The mean of the heads as the reference takes it. -/
def mean {F : FTy → Type} [FloatOps F] (a b c d : Vec F S256x256 .f32) : Vec F S256x256 .f32 :=
  Host.divf (addf (addf (addf (addf (broadcastInDim S256x256 ![] bcast_S_S256x256 (constant S_ .f32 0x00000000#32)) a) b) c) d)
    (broadcastInDim S256x256 ![] bcast_S_S256x256 (constant S_ .f32 0x40800000#32))

/-- The mean, entry by entry. -/
theorem mean_apply (a b c d : Vec Ideal S256x256 .f32) (g o : Fin 256) (f : Fin 4 → EReal) (ha : (a (ix2 g o) : EReal) = f 0) (hb : (b (ix2 g o) : EReal) = f 1)
    (hc : (c (ix2 g o) : EReal) = f 2) (hd : (d (ix2 g o) : EReal) = f 3) : (mean a b c d (ix2 g o) : EReal) = (∑ h : Fin 4, f h) * ((1 / 4 : ℝ) : EReal) := by
  have e : (mean a b c d (ix2 g o) : EReal) = Ideal.div (a (ix2 g o) + b (ix2 g o) + c (ix2 g o) + d (ix2 g o)) (Ideal.ofBits .f32 0x40800000#32) := by
    unfold mean
    pointwise
  rw [e, ha, hb, hc, hd, Fin.sum_univ_four, Finite.div_four]

/-- The reference's result. -/
theorem result_form (A : NoBias bg cg bh ch) (ε : ℝ) (hε : 0 < ε) (he : Ideal.ofBits .f32 0x24E69595#32 = (ε : EReal)) (g o : Fin 256) :
    (mean (headAt 0 slices0 x bt wg bg vg cg wh bh vh ch) (headAt 1 slices1 x bt wg bg vg cg wh bh vh ch) (headAt 2 slices2 x bt wg bg vg cg wh bh vh ch) (headAt 3 slices3 x bt wg bg vg cg wh bh vh ch) (ix2 g o) : EReal)
      = (∑ h : Fin 4, form x bt wg vg wh vh ε g o h) * ((1 / 4 : ℝ) : EReal) :=
  mean_apply _ _ _ _ g o (form x bt wg vg wh vh ε g o)
    (headAt_form x bt wg bg vg cg wh bh vh ch A ε hε he 0 slices0 g o)
    (headAt_form x bt wg bg vg cg wh bh vh ch A ε hε he 1 slices1 g o)
    (headAt_form x bt wg bg vg cg wh bh vh ch A ε hε he 2 slices2 g o)
    (headAt_form x bt wg bg vg cg wh bh vh ch A ε hε he 3 slices3 g o)

end Cert.ReferenceIdeal.Head

end
-- ==== Proof.Pre.lean ====
/- What the precondition says of an array's entries over the extended reals. -/
module

public import proofs.«01_k».proof.Defs
public import proofs.«01_k».proof.Proof.Finite
public import Idealize.ShloMosaic.Lib.Pointwise

@[expose] public section

noncomputable section

namespace Cert.Pool

open Idealize.ShloMosaic

theorem of_ofBool {p : Prop} [Decidable p] (h : BitVec.ofBool (decide p) = 1#1) : p := by
  by_contra hp
  rw [decide_eq_false hp] at h
  exact absurd h (by decide)

/-- An array equal to zero holds zeros. -/
theorem zero_of_equal {s : Shape} (x : FVec Ideal s .f32) (hb : Cert.Pre_without_biases.S_.BroadcastsInDim s (![] : Fin 0 → Fin s.rank))
    (h : cmpf .oeq x (broadcastInDim s ![] hb (constant (F := Ideal) Cert.Pre_without_biases.S_ .f32 0x00000000#32)) = fun _ => 1#1)
    (i : s.Idx) : (x i : EReal) = 0 := by
  have h' := congrFun h i
  change BitVec.ofBool (decide ((x i : EReal) = Ideal.ofBits .f32 0x00000000#32)) = 1#1 at h'
  have h'' := of_ofBool h'
  rw [Ideal.ofBits_zero_f32] at h''
  exact h''

end Cert.Pool

end
-- ==== Proof.Equation.lean ====
/- The kernel's output is the reference's, under the precondition. -/
module

public import proofs.«01_k».proof.Proof.Frames
public import proofs.«01_k».proof.Proof.KerForm
public import proofs.«01_k».proof.Proof.RefForm
public import proofs.«01_k».proof.Proof.Pre

@[expose] public section

set_option maxRecDepth 65536

noncomputable section

namespace Cert.Pool

open Idealize.ShloMosaic Idealize.ShloMosaic.TcCoe Idealize.SL.Sem

/-- An index of a rank-two array from its coordinates. -/
theorem idx2 (y : Cert.KernelIdeal.S256x256.Idx) : ∃ (g o : Fin 256), y = ix2 g o :=
  ⟨y 0, y 1, funext fun a => match a with | ⟨0, _⟩ => rfl | ⟨1, _⟩ => rfl⟩

/-- The two outputs over one set of arguments. -/
theorem outputs_eq (m : (ℓ : Loc Cert.KernelIdeal.nD Cert.KernelIdeal.τ Cert.KernelIdeal.sig) → Buf (Elt Ideal) ℓ) (c : Dev Cert.KernelIdeal.nD)
    (bg : Vec Ideal Cert.ReferenceIdeal.S4x512 .f32) (cg : Vec Ideal Cert.ReferenceIdeal.S4x1 .f32)
    (bh : Vec Ideal Cert.ReferenceIdeal.S4x512 .f32) (ch : Vec Ideal Cert.ReferenceIdeal.S4x256 .f32)
    (hbg : ∀ i, (bg i : EReal) = 0) (hcg : ∀ i, (cg i : EReal) = 0) (hbh : ∀ i, (bh i : EReal) = 0) (hch : ∀ i, (ch i : EReal) = 0) :
    Cert.ReferenceIdeal.Head.mean
      (Cert.ReferenceIdeal.Head.headAt 0 Cert.ReferenceIdeal.Head.slices0 (Cert.KernelIdeal.Pool.aX m c) (Cert.KernelIdeal.Pool.aB m c) (Cert.KernelIdeal.Pool.aWg m c) bg (Cert.KernelIdeal.Pool.aVg m c) cg (Cert.KernelIdeal.Pool.aWh m c) bh (Cert.KernelIdeal.Pool.aVh m c) ch)
      (Cert.ReferenceIdeal.Head.headAt 1 Cert.ReferenceIdeal.Head.slices1 (Cert.KernelIdeal.Pool.aX m c) (Cert.KernelIdeal.Pool.aB m c) (Cert.KernelIdeal.Pool.aWg m c) bg (Cert.KernelIdeal.Pool.aVg m c) cg (Cert.KernelIdeal.Pool.aWh m c) bh (Cert.KernelIdeal.Pool.aVh m c) ch)
      (Cert.ReferenceIdeal.Head.headAt 2 Cert.ReferenceIdeal.Head.slices2 (Cert.KernelIdeal.Pool.aX m c) (Cert.KernelIdeal.Pool.aB m c) (Cert.KernelIdeal.Pool.aWg m c) bg (Cert.KernelIdeal.Pool.aVg m c) cg (Cert.KernelIdeal.Pool.aWh m c) bh (Cert.KernelIdeal.Pool.aVh m c) ch)
      (Cert.ReferenceIdeal.Head.headAt 3 Cert.ReferenceIdeal.Head.slices3 (Cert.KernelIdeal.Pool.aX m c) (Cert.KernelIdeal.Pool.aB m c) (Cert.KernelIdeal.Pool.aWg m c) bg (Cert.KernelIdeal.Pool.aVg m c) cg (Cert.KernelIdeal.Pool.aWh m c) bh (Cert.KernelIdeal.Pool.aVh m c) ch)
      = Cert.KernelIdeal.Pool.bOut m c := by
  funext y
  obtain ⟨g, o, rfl⟩ := idx2 y
  obtain ⟨ε, hε, he⟩ := Finite.lit_eps
  exact (Cert.ReferenceIdeal.Head.result_form _ _ _ _ _ _ _ _ _ _
    ⟨fun h j => hbg _, fun h => hcg _, fun h j => hbh _, fun h o => hch _⟩ ε hε he g o).trans
    (Cert.KernelIdeal.Pool.bOut_form m c ε he g o).symm

end Cert.Pool

end
-- ==== Proof.lean ====
/- The claims about the attention pooling kernel: it, the same program over the extended reals and the reference terminate without fault, leave
   their arguments unchanged and every semaphore counter at zero; and kernel and reference compute the same function over the extended reals. -/
module

public import proofs.«01_k».proof.Defs
public import proofs.«01_k».proof.Proof.Result
public import proofs.«01_k».proof.Proof.Equation
public import Idealize.ShloMosaic.Adequacy
public import Idealize.ShloMosaic.Init
public import Idealize.ShloMosaic.Lib.Claim

@[expose] public section

set_option maxRecDepth 65536

noncomputable section

namespace Cert.Proof

open Idealize.ShloMosaic Idealize.ShloMosaic.TcCoe Idealize.SL.Sem Cert.Pool

instance referenceFacts : Cert.ReferenceIdeal.Facts := Cert.ReferenceIdeal.Gen.facts

/-- The reference's result is the kernel's, where the precondition holds and the two programs start from one set of arguments. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_without_biases m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Host.divf (Cert.ReferenceIdeal.Value.res_main_v348 (StableHlo.launchContents m' c))
        (broadcastInDim Cert.ReferenceIdeal.S256x256 ![] Cert.ReferenceIdeal.Gen.bcast_S_S256x256 (constant (F := Ideal) Cert.ReferenceIdeal.S_ .f32 0x40800000#32))
      = Cert.KernelIdeal.Pool.bOut m c := by
  obtain ⟨p1, p2, p3, p4⟩ := hp c
  rw [Cert.ReferenceIdeal.Head.sum_heads]
  have e0 : StableHlo.launchContents m' c (Proc.devRef .tc Cert.ReferenceIdeal.main_arg0) = Cert.KernelIdeal.Pool.aX m c := h0
  have e1 : StableHlo.launchContents m' c (Proc.devRef .tc Cert.ReferenceIdeal.main_arg1) = Cert.KernelIdeal.Pool.aB m c := h1
  have e2 : StableHlo.launchContents m' c (Proc.devRef .tc Cert.ReferenceIdeal.main_arg2) = Cert.KernelIdeal.Pool.aWg m c := h2
  have e4 : StableHlo.launchContents m' c (Proc.devRef .tc Cert.ReferenceIdeal.main_arg4) = Cert.KernelIdeal.Pool.aVg m c := h4
  have e6 : StableHlo.launchContents m' c (Proc.devRef .tc Cert.ReferenceIdeal.main_arg6) = Cert.KernelIdeal.Pool.aWh m c := h6
  have e8 : StableHlo.launchContents m' c (Proc.devRef .tc Cert.ReferenceIdeal.main_arg8) = Cert.KernelIdeal.Pool.aVh m c := h8
  have e3 : StableHlo.launchContents m' c (Proc.devRef .tc Cert.ReferenceIdeal.main_arg3) = m ((c.tc : Thread Cert.KernelIdeal.nD Cert.KernelIdeal.τ).loc Cert.KernelIdeal.main_arg3) := h3
  have e5 : StableHlo.launchContents m' c (Proc.devRef .tc Cert.ReferenceIdeal.main_arg5) = m ((c.tc : Thread Cert.KernelIdeal.nD Cert.KernelIdeal.τ).loc Cert.KernelIdeal.main_arg5) := h5
  have e7 : StableHlo.launchContents m' c (Proc.devRef .tc Cert.ReferenceIdeal.main_arg7) = m ((c.tc : Thread Cert.KernelIdeal.nD Cert.KernelIdeal.τ).loc Cert.KernelIdeal.main_arg7) := h7
  have e9 : StableHlo.launchContents m' c (Proc.devRef .tc Cert.ReferenceIdeal.main_arg9) = m ((c.tc : Thread Cert.KernelIdeal.nD Cert.KernelIdeal.τ).loc Cert.KernelIdeal.main_arg9) := h9
  rw [e0, e1, e2, e3, e4, e5, e6, e7, e8, e9]
  exact outputs_eq m c _ _ _ _ (zero_of_equal _ _ p1) (zero_of_equal _ _ p2) (zero_of_equal _ _ p3) (zero_of_equal _ _ p4)

/-- Kernel and reference compute the same function over the extended reals. -/
theorem algebraic : Cert.algebraic_KernelIdeal_ReferenceIdeal_pre_without_biases := by
  intro m g m' g' hp hag
  refine ⟨fun c => Cert.KernelIdeal.Pool.bOut m c, ?_, ?_⟩
  · exact (θ_run _ _ _).mono (fun r h c => ⟨h.1 c, h.2.1 c⟩) (θ_run_and (Cert.KernelIdeal.Pool.run_result m g) (Cert.KernelIdeal.Pool.frame m g))
  · refine (θ_run _ _ _).mono (fun r h c => ⟨(h c).1.trans ?_, (h c).2⟩) (Cert.ReferenceIdeal.Value.run m' g')
    obtain ⟨h0, h1, h2, h3, h4, h5, h6, h7, h8, h9⟩ := hag c
    exact results_eq m m' hp c h0 h1 h2 h3 h4 h5 h6 h7 h8 h9

/-- Everything that is claimed. -/
theorem claim : Cert.Claim :=
  ⟨kernelFacts, kernelIdealFacts, referenceFacts, preFacts, frame_Kernel, frame_KernelIdeal, fun m g _ => frame_KernelIdeal m g trivial,
    frame_ReferenceIdeal, fun m g _ => frame_ReferenceIdeal m g trivial, trivial, algebraic⟩

end Cert.Proof

end
